-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_exact_rows [hKernelIdeal : Cert.KernelIdeal.Facts] [hReferenceIdeal : Cert.ReferenceIdeal.Facts] [hOn_exact_rows : Cert.On_exact_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![1, 2048, 16, 128]⟩ : Shape).Idx, (Cert.On_exact_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v4) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![1, 2048, 16, 128]⟩ : Shape).Idx, (Cert.On_exact_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v51) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_exact_rows : Cert.On_exact_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_exact_rows (hKernelIdeal := hKernelIdeal) (hReferenceIdeal := hReferenceIdeal) (hOn_exact_rows := hOn_exact_rows)
-- ==== On_exact_rows.lean ====
abbrev S1x2048x16x128 : Shape := ⟨4, ![1, 2048, 16, 128]⟩
abbrev S1x16x2048x2048 : Shape := ⟨4, ![1, 16, 2048, 2048]⟩
abbrev S_ : Shape := ⟨0, ![]⟩
abbrev S1x2048x16 : Shape := ⟨3, ![1, 2048, 16]⟩
abbrev S1x16x2048 : Shape := ⟨3, ![1, 16, 2048]⟩
abbrev S1x16x2048x1 : Shape := ⟨4, ![1, 16, 2048, 1]⟩
abbrev S1023 : Shape := ⟨1, ![1023]⟩
abbrev S1x16x2048x1x2048 : Shape := ⟨5, ![1, 16, 2048, 1, 2048]⟩
abbrev S1023x1 : Shape := ⟨2, ![1023, 1]⟩
abbrev S1x1x1x1023x1 : Shape := ⟨5, ![1, 1, 1, 1023, 1]⟩
abbrev S1x16x2048x1023x2048 : Shape := ⟨5, ![1, 16, 2048, 1023, 2048]⟩
abbrev S1x16x2048x1023 : Shape := ⟨4, ![1, 16, 2048, 1023]⟩

class Facts : Prop where
  reducesTo_S1x2048x16x128_S1x2048x16_d3 : S1x2048x16x128.ReducesTo [3] S1x2048x16
  h_S_ : 0 < S_.numel
  transposes_S1x2048x16_S1x16x2048_0_2_1 : S1x2048x16.Transposes [0, 2, 1] S1x16x2048
  bcast_S1x16x2048_S1x16x2048x1_0_1_2 : S1x16x2048.BroadcastsInDim S1x16x2048x1 (![0, 1, 2] : Fin 3 → Fin S1x16x2048x1.rank)
  bcast_S_S1x16x2048x1 : S_.BroadcastsInDim S1x16x2048x1 (![] : Fin 0 → Fin S1x16x2048x1.rank)
  bcast_S1x16x2048x1_S1x16x2048x2048_0_1_2_3 : S1x16x2048x1.BroadcastsInDim S1x16x2048x2048 (![0, 1, 2, 3] : Fin 4 → Fin S1x16x2048x2048.rank)
  bcast_S_S1x16x2048x2048 : S_.BroadcastsInDim S1x16x2048x2048 (![] : Fin 0 → Fin S1x16x2048x2048.rank)
  bcast_S_S1023 : S_.BroadcastsInDim S1023 (![] : Fin 0 → Fin S1023.rank)
  bcast_S1x16x2048x2048_S1x16x2048x1x2048_0_1_2_4 : S1x16x2048x2048.BroadcastsInDim S1x16x2048x1x2048 (![0, 1, 2, 4] : Fin 4 → Fin S1x16x2048x1x2048.rank)
  bcast_S1023_S1023x1_0 : S1023.BroadcastsInDim S1023x1 (![0] : Fin 1 → Fin S1023x1.rank)
  bcast_S1023x1_S1x1x1x1023x1_3_4 : S1023x1.BroadcastsInDim S1x1x1x1023x1 (![3, 4] : Fin 2 → Fin S1x1x1x1023x1.rank)
  bcast_S1x16x2048x1x2048_S1x16x2048x1023x2048_0_1_2_3_4 : S1x16x2048x1x2048.BroadcastsInDim S1x16x2048x1023x2048 (![0, 1, 2, 3, 4] : Fin 5 → Fin S1x16x2048x1023x2048.rank)
  bcast_S1x1x1x1023x1_S1x16x2048x1023x2048_0_1_2_3_4 : S1x1x1x1023x1.BroadcastsInDim S1x16x2048x1023x2048 (![0, 1, 2, 3, 4] : Fin 5 → Fin S1x16x2048x1023x2048.rank)
  natLt_1_32 : 1 < 32
  reducesTo_S1x16x2048x1023x2048_S1x16x2048x1023_d4 : S1x16x2048x1023x2048.ReducesTo [4] S1x16x2048x1023
  bcast_S_S1x16x2048x1023 : S_.BroadcastsInDim S1x16x2048x1023 (![] : Fin 0 → Fin S1x16x2048x1023.rank)
  reducesTo_S1x16x2048x1023_S1x16x2048_d3 : S1x16x2048x1023.ReducesTo [3] S1x16x2048
  reducesTo_S1x16x2048x2048_S1x16x2048_d3 : S1x16x2048x2048.ReducesTo [3] S1x16x2048
  transposes_S1x16x2048_S1x2048x16_0_2_1 : S1x16x2048.Transposes [0, 2, 1] S1x2048x16
  bcast_S1x2048x16_S1x2048x16x128_0_1_2 : S1x2048x16.BroadcastsInDim S1x2048x16x128 (![0, 1, 2] : Fin 3 → Fin S1x2048x16x128.rank)
  dot_S1x2048x16x128_S1x2048x16x128_S1x16x2048x2048_3_3_1_1_02_02_wf : DotDims.WF S1x2048x16x128 S1x2048x16x128 S1x16x2048x2048 [3] [3] [1] [1] [0, 2] [0, 2]

variable [Facts]

def dot_S1x2048x16x128_S1x2048x16x128_S1x16x2048x2048_3_3_1_1_02_02 : DotDims S1x2048x16x128 S1x2048x16x128 S1x16x2048x2048 where
  lhsContracting := [3]
  rhsContracting := [3]
  lhsNonContracting := [1]
  rhsNonContracting := [1]
  lhsBatch := [0, 2]
  rhsBatch := [0, 2]
  wf := dot_S1x2048x16x128_S1x2048x16x128_S1x16x2048x2048_3_3_1_1_02_02_wf
def fn_part2 {F : FTy → Type} [FloatOps F] (main_v0 : FVec F S1x16x2048x2048 .f32) (main_v35 : IVec S1x16x2048x1023 32) (main_v36 : IVec S1x16x2048x1023 32) : IVec S1x2048x16x128 1 :=
  let main_v37 : IVec S1x16x2048x1023 1 := cmpi .eq main_v35 main_v36
  let main_c_9 : IVec S_ 1 := constantI S_ 1 0#1
  let main_v38 : IVec S1x16x2048 1 := (fun x v => Host.reduce IntOp.ori x v reducesTo_S1x16x2048x1023_S1x16x2048_d3 h_S_) main_v37 main_c_9
  let main_cst_10 : FVec F S_ .f32 := constant S_ .f32 0x7F800000#32
  let main_v39 : FVec F S1x16x2048x2048 .f32 := broadcastInDim S1x16x2048x2048 ![] bcast_S_S1x16x2048x2048 main_cst_10
  let main_v40 : IVec S1x16x2048x2048 1 := cmpf .olt main_v0 main_v39
  let main_c_11 : IVec S_ 1 := constantI S_ 1 1#1
  let main_v41 : IVec S1x16x2048 1 := (fun x v => Host.reduce IntOp.andi x v reducesTo_S1x16x2048x2048_S1x16x2048_d3 h_S_) main_v40 main_c_11
  let main_v42 : IVec S1x16x2048 1 := andi main_v38 main_v41
  let main_v43 : IVec S1x2048x16 1 := (transpose S1x2048x16 [0, 2, 1] · transposes_S1x16x2048_S1x2048x16_0_2_1) main_v42
  let main_v44 : IVec S1x2048x16x128 1 := broadcastInDim S1x2048x16x128 ![0, 1, 2] bcast_S1x2048x16_S1x2048x16x128_0_1_2 main_v43
  main_v44

def fn_part1 {F : FTy → Type} [FloatOps F] (main_v0 : FVec F S1x16x2048x2048 .f32) (main_v17 : FVec F S1x16x2048x2048 .f32) (main_cst_4 : FVec F S_ .f32) : IVec S1x2048x16x128 1 :=
  let main_v18 : FVec F S1x16x2048x2048 .f32 := broadcastInDim S1x16x2048x2048 ![] bcast_S_S1x16x2048x2048 main_cst_4
  let main_v19 : FVec F S1x16x2048x2048 .f32 := minimumf main_v17 main_v18
  let main_v20 : IVec S1x16x2048x2048 32 := fptosi 32 main_v19
  let main_v21 : IVec S1023 32 := iotaInDim S1023 32 0
  let main_c : IVec S_ 32 := constantI S_ 32 1#32
  let main_v22 : IVec S1023 32 := broadcastInDim S1023 ![] bcast_S_S1023 main_c
  let main_v23 : IVec S1023 32 := addi main_v22 main_v21
  let main_c_5 : IVec S_ 32 := constantI S_ 32 64#32
  let main_v24 : IVec S1023 32 := broadcastInDim S1023 ![] bcast_S_S1023 main_c_5
  let main_v25 : IVec S1023 32 := muli main_v24 main_v23
  let main_c_6 : IVec S_ 32 := constantI S_ 32 32767#32
  let main_v26 : IVec S1023 32 := broadcastInDim S1023 ![] bcast_S_S1023 main_c_6
  let main_v27 : IVec S1023 32 := subi main_v26 main_v25
  let main_v28 : IVec S1x16x2048x1x2048 32 := broadcastInDim S1x16x2048x1x2048 ![0, 1, 2, 4] bcast_S1x16x2048x2048_S1x16x2048x1x2048_0_1_2_4 main_v20
  let main_v29 : IVec S1023x1 32 := broadcastInDim S1023x1 ![0] bcast_S1023_S1023x1_0 main_v27
  let main_v30 : IVec S1x1x1x1023x1 32 := broadcastInDim S1x1x1x1023x1 ![3, 4] bcast_S1023x1_S1x1x1x1023x1_3_4 main_v29
  let main_v31 : IVec S1x16x2048x1023x2048 32 := broadcastInDim S1x16x2048x1023x2048 ![0, 1, 2, 3, 4] bcast_S1x16x2048x1x2048_S1x16x2048x1023x2048_0_1_2_3_4 main_v28
  let main_v32 : IVec S1x16x2048x1023x2048 32 := broadcastInDim S1x16x2048x1023x2048 ![0, 1, 2, 3, 4] bcast_S1x1x1x1023x1_S1x16x2048x1023x2048_0_1_2_3_4 main_v30
  let main_v33 : IVec S1x16x2048x1023x2048 1 := cmpi .sge main_v31 main_v32
  let main_v34 : IVec S1x16x2048x1023x2048 32 := (extui 32 · natLt_1_32) main_v33
  let main_c_7 : IVec S_ 32 := constantI S_ 32 0#32
  let main_v35 : IVec S1x16x2048x1023 32 := (fun x v => Host.reduce IntOp.addi x v reducesTo_S1x16x2048x1023x2048_S1x16x2048x1023_d4 h_S_) main_v34 main_c_7
  let main_c_8 : IVec S_ 32 := constantI S_ 32 409#32
  let main_v36 : IVec S1x16x2048x1023 32 := broadcastInDim S1x16x2048x1023 ![] bcast_S_S1x16x2048x1023 main_c_8
  fn_part2 (F := F) main_v0 main_v35 main_v36

def fn {F : FTy → Type} [FloatOps F] (main_arg0 : FVec F S1x2048x16x128 .f32) (main_arg1 : FVec F S1x2048x16x128 .f32) (main_arg2 : FVec F S1x2048x16x128 .f32) : IVec S1x2048x16x128 1 :=
  let main_v0 : FVec F S1x16x2048x2048 .f32 := (fun l r => Host.dotGeneral dot_S1x2048x16x128_S1x2048x16x128_S1x16x2048x2048_3_3_1_1_02_02 none l r) main_arg0 main_arg1
  let main_v1 : FVec F S1x2048x16x128 .f32 := mulf main_arg0 main_arg0
  let main_cst : FVec F S_ .f32 := constant S_ .f32 0x00000000#32
  let main_v2 : FVec F S1x2048x16 .f32 := (fun x v => Host.reduceAdd x v reducesTo_S1x2048x16x128_S1x2048x16_d3 h_S_) main_v1 main_cst
  let main_v3 : FVec F S1x2048x16 .f32 := Host.sqrt main_v2
  let main_v4 : FVec F S1x16x2048 .f32 := (transpose S1x16x2048 [0, 2, 1] · transposes_S1x2048x16_S1x16x2048_0_2_1) main_v3
  let main_v5 : FVec F S1x16x2048x1 .f32 := broadcastInDim S1x16x2048x1 ![0, 1, 2] bcast_S1x16x2048_S1x16x2048x1_0_1_2 main_v4
  let main_cst_0 : FVec F S_ .f32 := constant S_ .f32 0x3F57B917#32
  let main_v6 : FVec F S1x16x2048x1 .f32 := broadcastInDim S1x16x2048x1 ![] bcast_S_S1x16x2048x1 main_cst_0
  let main_v7 : FVec F S1x16x2048x1 .f32 := mulf main_v6 main_v5
  let main_v8 : FVec F S1x16x2048x2048 .f32 := broadcastInDim S1x16x2048x2048 ![0, 1, 2, 3] bcast_S1x16x2048x1_S1x16x2048x2048_0_1_2_3 main_v7
  let main_v9 : FVec F S1x16x2048x2048 .f32 := subf main_v0 main_v8
  let main_cst_1 : FVec F S_ .f32 := constant S_ .f32 0x3E4CCCCD#32
  let main_v10 : FVec F S1x16x2048x1 .f32 := broadcastInDim S1x16x2048x1 ![] bcast_S_S1x16x2048x1 main_cst_1
  let main_v11 : FVec F S1x16x2048x1 .f32 := mulf main_v10 main_v5
  let main_cst_2 : FVec F S_ .f32 := constant S_ .f32 0x46FFFE00#32
  let main_v12 : FVec F S1x16x2048x1 .f32 := broadcastInDim S1x16x2048x1 ![] bcast_S_S1x16x2048x1 main_cst_2
  let main_v13 : FVec F S1x16x2048x1 .f32 := Host.divf main_v12 main_v11
  let main_v14 : FVec F S1x16x2048x2048 .f32 := broadcastInDim S1x16x2048x2048 ![0, 1, 2, 3] bcast_S1x16x2048x1_S1x16x2048x2048_0_1_2_3 main_v13
  let main_v15 : FVec F S1x16x2048x2048 .f32 := mulf main_v9 main_v14
  let main_cst_3 : FVec F S_ .f32 := constant S_ .f32 0xC6FFFE00#32
  let main_v16 : FVec F S1x16x2048x2048 .f32 := broadcastInDim S1x16x2048x2048 ![] bcast_S_S1x16x2048x2048 main_cst_3
  let main_v17 : FVec F S1x16x2048x2048 .f32 := maximumf main_v15 main_v16
  let main_cst_4 : FVec F S_ .f32 := constant S_ .f32 0x46FFFE00#32
  fn_part1 (F := F) main_v0 main_v17 main_cst_4
-- ==== Kernel.lean ====
abbrev S1x2048x16x128 : Shape := ⟨4, ![1, 2048, 16, 128]⟩
abbrev S2048x2048 : Shape := ⟨2, ![2048, 2048]⟩
abbrev S2048x128 : Shape := ⟨2, ![2048, 128]⟩
abbrev S2048 : Shape := ⟨1, ![2048]⟩
abbrev S2048x1 : Shape := ⟨2, ![2048, 1]⟩
abbrev S2048x1024 : Shape := ⟨2, ![2048, 1024]⟩
abbrev S2048x512 : Shape := ⟨2, ![2048, 512]⟩
abbrev S2048x256 : Shape := ⟨2, ![2048, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x16x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S1x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32 : BitVec 32 := 0#32
  let c10_i32 : BitVec 32 := 10#32
  let v28 : BitVec 32 := Scalar.addi c0_i32 c10_i32
  let c1_i32 : BitVec 32 := 1#32
  ⟨c0_i32, v28, c1_i32⟩
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1x2048x16x128 : Shape := ⟨4, ![1, 2048, 16, 128]⟩
abbrev S1x16x2048x2048 : Shape := ⟨4, ![1, 16, 2048, 2048]⟩
abbrev S1x16x2048x409 : Shape := ⟨4, ![1, 16, 2048, 409]⟩
abbrev S1 : Shape := ⟨1, ![1]⟩
abbrev S1x1x1x1 : Shape := ⟨4, ![1, 1, 1, 1]⟩
abbrev S16 : Shape := ⟨1, ![16]⟩
abbrev S1x16x1x1 : Shape := ⟨4, ![1, 16, 1, 1]⟩
abbrev S2048 : Shape := ⟨1, ![2048]⟩
abbrev S1x1x2048x1 : Shape := ⟨4, ![1, 1, 2048, 1]⟩
abbrev S_ : Shape := ⟨0, ![]⟩
abbrev S1x16x2048x409x1 : Shape := ⟨5, ![1, 16, 2048, 409, 1]⟩
abbrev S1x16x2048x409x4 : Shape := ⟨5, ![1, 16, 2048, 409, 4]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 70
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S1x16x2048x2048, .f32⟩
  | .hbm, ⟨4, _⟩ => ⟨S1x16x2048x409, .f32⟩
  | .hbm, ⟨5, _⟩ => ⟨S1x16x2048x409, .i32⟩
  | .hbm, ⟨6, _⟩ => ⟨S1, .i32⟩
  | .hbm, ⟨7, _⟩ => ⟨S1x1x1x1, .i32⟩
  | .hbm, ⟨8, _⟩ => ⟨S16, .i32⟩
  | .hbm, ⟨9, _⟩ => ⟨S1x16x1x1, .i32⟩
  | .hbm, ⟨10, _⟩ => ⟨S2048, .i32⟩
  | .hbm, ⟨11, _⟩ => ⟨S1x1x2048x1, .i32⟩
  | .hbm, ⟨12, _⟩ => ⟨S_, .f32⟩
  | .hbm, ⟨13, _⟩ => ⟨S1x16x2048x2048, .f32⟩
  | .hbm, ⟨14, _⟩ => ⟨S_, .i32⟩
  | .hbm, ⟨15, _⟩ => ⟨S1x1x1x1, .i32⟩
  | .hbm, ⟨16, _⟩ => ⟨S1x1x1x1, .i1⟩
  | .hbm, ⟨17, _⟩ => ⟨S_, .i32⟩
  | .hbm, ⟨18, _⟩ => ⟨S1x1x1x1, .i32⟩
  | .hbm, ⟨19, _⟩ => ⟨S1x1x1x1, .i32⟩
  | .hbm, ⟨20, _⟩ => ⟨S1x1x1x1, .i32⟩
  | .hbm, ⟨21, _⟩ => ⟨S_, .i32⟩
  | .hbm, ⟨22, _⟩ => ⟨S1x16x1x1, .i32⟩
  | .hbm, ⟨23, _⟩ => ⟨S1x16x1x1, .i1⟩
  | .hbm, ⟨24, _⟩ => ⟨S_, .i32⟩
  | .hbm, ⟨25, _⟩ => ⟨S1x16x1x1, .i32⟩
  | .hbm, ⟨26, _⟩ => ⟨S1x16x1x1, .i32⟩
  | .hbm, ⟨27, _⟩ => ⟨S1x16x1x1, .i32⟩
  | .hbm, ⟨28, _⟩ => ⟨S_, .i32⟩
  | .hbm, ⟨29, _⟩ => ⟨S1x1x2048x1, .i32⟩
  | .hbm, ⟨30, _⟩ => ⟨S1x1x2048x1, .i1⟩
  | .hbm, ⟨31, _⟩ => ⟨S_, .i32⟩
  | .hbm, ⟨32, _⟩ => ⟨S1x1x2048x1, .i32⟩
  | .hbm, ⟨33, _⟩ => ⟨S1x1x2048x1, .i32⟩
  | .hbm, ⟨34, _⟩ => ⟨S1x1x2048x1, .i32⟩
  | .hbm, ⟨35, _⟩ => ⟨S_, .i32⟩
  | .hbm, ⟨36, _⟩ => ⟨S1x16x2048x409, .i32⟩
  | .hbm, ⟨37, _⟩ => ⟨S1x16x2048x409, .i1⟩
  | .hbm, ⟨38, _⟩ => ⟨S_, .i32⟩
  | .hbm, ⟨39, _⟩ => ⟨S1x16x2048x409, .i32⟩
  | .hbm, ⟨40, _⟩ => ⟨S1x16x2048x409, .i32⟩
  | .hbm, ⟨41, _⟩ => ⟨S1x16x2048x409, .i32⟩
  | .hbm, ⟨42, _⟩ => ⟨S1x16x2048x409, .i32⟩
  | .hbm, ⟨43, _⟩ => ⟨S1x16x2048x409, .i32⟩
  | .hbm, ⟨44, _⟩ => ⟨S1x16x2048x409, .i32⟩
  | .hbm, ⟨45, _⟩ => ⟨S1x16x2048x409x1, .i32⟩
  | .hbm, ⟨46, _⟩ => ⟨S1x16x2048x409x1, .i32⟩
  | .hbm, ⟨47, _⟩ => ⟨S1x16x2048x409x1, .i32⟩
  | .hbm, ⟨48, _⟩ => ⟨S1x16x2048x409x1, .i32⟩
  | .hbm, ⟨49, _⟩ => ⟨S1x16x2048x409x4, .i32⟩
  | .hbm, ⟨50, _⟩ => ⟨S1x16x2048x2048, .f32⟩
  | .hbm, ⟨51, _⟩ => ⟨S_, .f32⟩
  | .hbm, ⟨52, _⟩ => ⟨S1x16x2048x2048, .f32⟩
  | .hbm, ⟨53, _⟩ => ⟨S1x16x2048x2048, .f32⟩
  | .hbm, ⟨54, _⟩ => ⟨S_, .f32⟩
  | .hbm, ⟨55, _⟩ => ⟨S1x16x2048, .f32⟩
  | .hbm, ⟨56, _⟩ => ⟨S_, .f32⟩
  | .hbm, ⟨57, _⟩ => ⟨S1x16x2048, .f32⟩
  | .hbm, ⟨58, _⟩ => ⟨S1x16x2048, .f32⟩
  | .hbm, ⟨59, _⟩ => ⟨S1x16x2048x1, .f32⟩
  | .hbm, ⟨60, _⟩ => ⟨S1x16x2048x2048, .f32⟩
  | .hbm, ⟨61, _⟩ => ⟨S1x16x2048x2048, .f32⟩
  | .hbm, ⟨62, _⟩ => ⟨S1x16x2048x2048, .f32⟩
  | .hbm, ⟨63, _⟩ => ⟨S_, .f32⟩
  | .hbm, ⟨64, _⟩ => ⟨S1x16x2048, .f32⟩
  | .hbm, ⟨65, _⟩ => ⟨S1x16x2048x1, .f32⟩
  | .hbm, ⟨66, _⟩ => ⟨S1x16x2048x2048, .f32⟩
  | .hbm, ⟨67, _⟩ => ⟨S1x16x2048x2048, .f32⟩
  | .hbm, ⟨68, _⟩ => ⟨S1x16x128x2048, .f32⟩
  | .hbm, ⟨69, _⟩ => ⟨S1x2048x16x128, .f32⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proof.Row.lean ====
/- One query row over the extended reals: its scores, its length, the quantiser, and that the quantiser keeps order. -/
module

public import Idealize.ShloMosaic.PureOps.Ideal

@[expose] public section

noncomputable section

namespace Cert.Row

open Idealize.ShloMosaic

/-- The score of a query against a key. -/
def score {n : ℕ} (q k : Fin n → EReal) : EReal := ∑ e, q e * k e

/-- The query's Euclidean length. -/
def length {n : ℕ} (q : Fin n → EReal) : EReal := Ideal.sqrt (∑ e, q e * q e)

/-- The middle of the quantised range, in multiples of the query's length. -/
abbrev cMid : EReal := Ideal.ofBits .f32 0x3F57B917#32
/-- Half the width of the quantised range, in multiples of the query's length. -/
abbrev cWidth : EReal := Ideal.ofBits .f32 0x3E4CCCCD#32
/-- The greatest 16-bit level. -/
abbrev cTop : EReal := Ideal.ofBits .f32 0x46FFFE00#32
/-- The least level that the quantiser yields. -/
abbrev cBot : EReal := Ideal.ofBits .f32 0xC6FFFE00#32
/-- The scale of the scores. -/
abbrev cScale : EReal := Ideal.ofBits .f32 0x3DB504F3#32

/-- The greatest level is 32767. -/
theorem cTop_eq : cTop = ((32767 : ℝ) : EReal) := by
  simp [cTop, Ideal.ofBits, Ideal.ieee]
  rw [← EReal.coe_mul]
  norm_num

/-- The least level is -32767. -/
theorem cBot_eq : cBot = ((-32767 : ℝ) : EReal) := by
  simp [cBot, Ideal.ofBits, Ideal.ieee]
  rw [← EReal.coe_mul]
  norm_num

/-- Half the width is not negative. -/
theorem cWidth_nonneg : 0 ≤ cWidth := by
  simp [cWidth, Ideal.ofBits, Ideal.ieee]
  rw [← EReal.coe_mul]
  exact EReal.coe_nonneg.mpr (by positivity)

/-- A score below plus infinity stays below it when scaled. -/
theorem scale_lt_top {s : EReal} (h : s < ⊤) : s * cScale < ⊤ := by
  obtain ⟨r, hr, e⟩ : ∃ r : ℝ, 0 < r ∧ cScale = r := by
    simp [cScale, Ideal.ofBits, Ideal.ieee]
    exact ⟨_, by positivity, (EReal.coe_mul _ _).symm⟩
  rw [e]
  induction s with
  | bot => rw [EReal.bot_mul_coe_of_pos hr]; exact bot_lt_top
  | top => exact absurd h (lt_irrefl _)
  | coe t => rw [← EReal.coe_mul]; exact EReal.coe_lt_top _

/-- The least `f32` pattern's value, the start of a maximum. -/
theorem negInf_eq : Ideal.ofBits .f32 0xFF800000#32 = ⊥ := by
  simp [Ideal.ofBits, Ideal.ieee]

/-- The pattern of plus infinity is the greatest extended real. -/
theorem posInf_eq : Ideal.ofBits .f32 0x7F800000#32 = ⊤ := by
  simp [Ideal.ofBits, Ideal.ieee]

/-- The score moved to the middle of the range, scaled to 16-bit levels and clipped to them. -/
def quant (s n : EReal) : EReal := min cTop (max cBot ((s - cMid * n) * Ideal.div cTop (cWidth * n)))

/-- The level: the quantised score rounded toward zero. -/
def level (s n : EReal) : ℤ := Ideal.toIntClamped (-32768) 32767 (quant s n)

/-- A square is not negative. -/
theorem sq_nonneg (x : EReal) : 0 ≤ x * x := by
  rcases le_total 0 x with h | h
  · exact mul_nonneg h h
  · have : 0 ≤ -x := EReal.neg_nonneg.mpr h
    have h2 := mul_nonneg this this
    rwa [neg_mul_neg] at h2

/-- A length is not negative. -/
theorem length_nonneg {n : ℕ} (q : Fin n → EReal) : 0 ≤ length q := by
  have h : 0 ≤ ∑ e, q e * q e := Finset.sum_nonneg fun e _ => sq_nonneg _
  unfold length
  generalize ∑ e, q e * q e = y at h
  induction y with
  | bot => exact absurd h (by simp)
  | top => simp
  | coe r =>
    rw [Ideal.sqrt_coe, if_neg (not_lt.mpr (EReal.coe_nonneg.mp h))]
    exact EReal.coe_nonneg.mpr (Real.sqrt_nonneg r)

/-- The factor from scores to levels is not negative. -/
theorem factor_nonneg (n : EReal) (hn : 0 ≤ n) : 0 ≤ Ideal.div cTop (cWidth * n) := by
  have hy : 0 ≤ cWidth * n := mul_nonneg cWidth_nonneg hn
  have ht : 0 < cTop := by rw [cTop_eq]; exact EReal.coe_pos.mpr (by norm_num)
  unfold Ideal.div
  by_cases hz : cWidth * n = 0
  · rw [if_pos hz, if_pos ht]
    exact le_top
  · rw [if_neg hz]
    exact mul_nonneg ht.le (EReal.inv_nonneg_of_nonneg hy)

/-- A greater score has no smaller quantised value. -/
theorem quant_mono (n : EReal) (hn : 0 ≤ n) {s t : EReal} (h : s ≤ t) : quant s n ≤ quant t n := by
  unfold quant
  exact min_le_min_left _ (max_le_max_left _ (mul_le_mul_of_nonneg_right (EReal.sub_le_sub h le_rfl) (factor_nonneg n hn)))

/-- A quantised value is a real between the two bounds. -/
theorem quant_real (s n : EReal) : ∃ r : ℝ, quant s n = r ∧ -32767 ≤ r ∧ r ≤ 32767 := by
  have h1 : quant s n ≤ ((32767 : ℝ) : EReal) := by
    rw [← cTop_eq]; exact min_le_left _ _
  have h2 : ((-32767 : ℝ) : EReal) ≤ quant s n := by
    rw [← cBot_eq]
    refine le_min ?_ (le_max_left _ _)
    rw [cBot_eq, cTop_eq]
    exact EReal.coe_le_coe_iff.mpr (by norm_num)
  generalize quant s n = x at h1 h2
  induction x with
  | bot => exact absurd (le_bot_iff.mp h2) (EReal.coe_ne_bot _)
  | top => exact absurd (top_le_iff.mp h1) (EReal.coe_ne_top _)
  | coe r => exact ⟨r, rfl, EReal.coe_le_coe_iff.mp h2, EReal.coe_le_coe_iff.mp h1⟩

/-- Rounding toward zero. -/
def trunc (r : ℝ) : ℤ := if 0 ≤ r then ⌊r⌋ else ⌈r⌉

/-- Rounding toward zero keeps order. -/
theorem trunc_mono {r t : ℝ} (h : r ≤ t) : trunc r ≤ trunc t := by
  unfold trunc
  split <;> split
  · exact Int.floor_mono h
  · linarith
  · rename_i h1 h2
    exact le_trans (Int.ceil_le.mpr (by push_cast; linarith : r ≤ ((0 : ℤ) : ℝ))) (Int.floor_nonneg.mpr h2)
  · exact Int.ceil_mono h

/-- Rounding toward zero keeps the range. -/
theorem trunc_bounds {r : ℝ} (h1 : -32767 ≤ r) (h2 : r ≤ 32767) : -32767 ≤ trunc r ∧ trunc r ≤ 32767 := by
  have a := trunc_mono h1
  have b := trunc_mono h2
  have e1 : trunc (-32767 : ℝ) = -32767 := by
    unfold trunc
    rw [if_neg (by norm_num)]
    exact_mod_cast Int.ceil_intCast (R := ℝ) (-32767)
  have e2 : trunc (32767 : ℝ) = 32767 := by
    unfold trunc
    rw [if_pos (by norm_num)]
    exact_mod_cast Int.floor_intCast (R := ℝ) 32767
  exact ⟨e1 ▸ a, e2 ▸ b⟩

/-- The rounding of a quantised value, clamped to any range that holds the levels, is its rounding. -/
theorem clamped (lo hi : ℤ) (hlo : lo ≤ -32767) (hhi : 32767 ≤ hi) (s n : EReal) :
    ∃ r : ℝ, quant s n = r ∧ Ideal.toIntClamped lo hi (quant s n) = trunc r ∧ -32767 ≤ trunc r ∧ trunc r ≤ 32767 := by
  obtain ⟨r, hr, h1, h2⟩ := quant_real s n
  obtain ⟨b1, b2⟩ := trunc_bounds h1 h2
  refine ⟨r, hr, ?_, b1, b2⟩
  rw [hr, Ideal.toIntClamped_coe]
  change max lo (min hi (trunc r)) = trunc r
  omega

/-- The range of the levels. -/
theorem level_bounds (s n : EReal) : -32767 ≤ level s n ∧ level s n ≤ 32767 := by
  obtain ⟨r, -, h, b1, b2⟩ := clamped (-32768) 32767 (by norm_num) (by norm_num) s n
  unfold level
  rw [h]
  exact ⟨b1, b2⟩

/-- A greater score has no lesser level. -/
theorem level_mono (n : EReal) (hn : 0 ≤ n) {s t : EReal} (h : s ≤ t) : level s n ≤ level t n := by
  have hq := quant_mono n hn h
  obtain ⟨r, hr, h1, -, -⟩ := clamped (-32768) 32767 (by norm_num) (by norm_num) s n
  obtain ⟨u, hu, h2, -, -⟩ := clamped (-32768) 32767 (by norm_num) (by norm_num) t n
  unfold level
  rw [h1, h2]
  rw [hr, hu] at hq
  exact trunc_mono (EReal.coe_le_coe_iff.mp hq)

/-- The level as a 16-bit word. -/
theorem word16 (s n : EReal) : (Ideal.fptosi 16 (quant s n)).toInt = level s n := by
  have hb := level_bounds s n
  have e : Ideal.fptosi 16 (quant s n) = BitVec.ofInt 16 (level s n) := rfl
  rw [e, BitVec.toInt_ofInt, Int.bmod_eq_of_le] <;> norm_num <;> omega

/-- The level as a 32-bit word. -/
theorem word32 (s n : EReal) : (Ideal.fptosi 32 (quant s n)).toInt = level s n := by
  have hb := level_bounds s n
  have e : Ideal.fptosi 32 (quant s n) = BitVec.ofInt 32 (level s n) := by
    obtain ⟨r, hr, h1, -, -⟩ := clamped (-32768) 32767 (by norm_num) (by norm_num) s n
    obtain ⟨u, hu, h2, -, -⟩ :=
      clamped (-(2 ^ (32 - 1) : Nat)) ((2 ^ (32 - 1) : Nat) - 1) (by norm_num) (by norm_num) s n
    unfold Ideal.fptosi level
    rw [h1, h2, EReal.coe_injective (hr.symm.trans hu)]
  rw [e, BitVec.toInt_ofInt, Int.bmod_eq_of_le] <;> norm_num <;> omega

end Cert.Row
-- ==== Proof.Bisect.lean ====
/- The bisection over signed words: ten halvings of the range of a 16-bit word, steered by a count that falls as the
   level rises.  Where some tested level is met by exactly the wanted number of entries, so is the level that is found. -/
module

public import Idealize.ShloMosaic.PureOps.Ideal

@[expose] public section

namespace Cert.Bisect

/-- How many entries of a row of integers are at least `t`. -/
def count {n : ℕ} (u : Fin n → ℤ) (t : ℤ) : ℕ := (Finset.univ.filter fun j => t ≤ u j).card

/-- A higher level is met by no more entries. -/
theorem count_anti {n : ℕ} (u : Fin n → ℤ) {s t : ℤ} (h : s ≤ t) : count u t ≤ count u s :=
  Finset.card_le_card fun j hj => by
    rw [Finset.mem_filter] at hj ⊢
    exact ⟨hj.1, le_trans h hj.2⟩

/-- One halving: the middle of the interval becomes its lower end if enough entries meet it, else its upper end. -/
def halve {n : ℕ} (k : ℕ) (u : Fin n → ℤ) (p : ℤ × ℤ) : ℤ × ℤ :=
  if k ≤ count u ((p.1 + p.2) / 2) then ((p.1 + p.2) / 2, p.2) else (p.1, (p.1 + p.2) / 2)

/-- What holds of the interval when its length is `w` (the leftmost interval is shorter by one): the upper end stands
    `w * j` below the top, the lower end is met by enough entries, and the upper end, once moved, is not. -/
structure Inv {n : ℕ} (k : ℕ) (u : Fin n → ℤ) (w : ℤ) (p : ℤ × ℤ) : Prop where
  low : -32768 ≤ p.1
  high : p.2 ≤ 32767
  shape : p.1 = p.2 - w ∨ (p.1 = -32768 ∧ p.2 = -32768 + w - 1)
  grid : ∃ j : ℤ, p.2 = 32767 - w * j
  enough : k ≤ count u p.1
  short : p.2 = 32767 ∨ count u p.2 < k

/-- The whole range satisfies it. -/
theorem inv_start {n : ℕ} (k : ℕ) (u : Fin n → ℤ) (hu : ∀ j, -32768 ≤ u j) (hk : k ≤ n) :
    Inv k u 65536 (-32768, 32767) where
  low := le_refl _
  high := le_refl _
  shape := .inr ⟨rfl, by norm_num⟩
  grid := ⟨0, by norm_num⟩
  enough := by
    have : count u (-32768) = n := by
      unfold count
      rw [Finset.filter_true_of_mem fun j _ => hu j, Finset.card_univ, Fintype.card_fin]
    exact hk.trans this.ge
  short := .inl rfl

/-- A halving keeps it, at half the length. -/
theorem inv_halve {n : ℕ} (k : ℕ) (u : Fin n → ℤ) (w : ℤ) (hw : 0 < w) (p : ℤ × ℤ) (h : Inv k u (2 * w) p) :
    Inv k u w (halve k u p) := by
  obtain ⟨a, b⟩ := p
  obtain ⟨low, high, shape, ⟨j, grid⟩, enough, short⟩ := h
  simp only at low high shape grid enough short
  unfold halve
  have hmid : (a = b - 2 * w ∧ (a + b) / 2 = b - w) ∨
      (a = -32768 ∧ b = -32768 + 2 * w - 1 ∧ (a + b) / 2 = -32768 + w - 1) := by
    rcases shape with h | ⟨h, h'⟩
    · exact .inl ⟨h, by omega⟩
    · exact .inr ⟨h, h', by omega⟩
  have hmul : 2 * w * j = w * (2 * j) := by ring
  split
  · rename_i hc
    refine ⟨?_, high, ?_, ⟨2 * j, by simp only; omega⟩, hc, short⟩
    · simp only; omega
    · simp only; omega
  · rename_i hc
    have hmul' : w * (2 * j + 1) = w * (2 * j) + w := by ring
    refine ⟨low, ?_, ?_, ⟨2 * j + 1, ?_⟩, enough, .inr (not_le.mp hc)⟩ <;> simp only <;> omega

/-- The ten halvings. -/
def search {n : ℕ} (k : ℕ) (u : Fin n → ℤ) : ℤ × ℤ :=
  (List.finRange 10).foldl (fun p _ => halve k u p) (-32768, 32767)

/-- After them the interval has length 64. -/
theorem inv_search {n : ℕ} (k : ℕ) (u : Fin n → ℤ) (hu : ∀ j, -32768 ≤ u j) (hk : k ≤ n) : Inv k u 64 (search k u) := by
  have h0 := inv_start k u hu hk
  have h1 := inv_halve k u 32768 (by norm_num) _ h0
  have h2 := inv_halve k u 16384 (by norm_num) _ h1
  have h3 := inv_halve k u 8192 (by norm_num) _ h2
  have h4 := inv_halve k u 4096 (by norm_num) _ h3
  have h5 := inv_halve k u 2048 (by norm_num) _ h4
  have h6 := inv_halve k u 1024 (by norm_num) _ h5
  have h7 := inv_halve k u 512 (by norm_num) _ h6
  have h8 := inv_halve k u 256 (by norm_num) _ h7
  have h9 := inv_halve k u 128 (by norm_num) _ h8
  have h10 := inv_halve k u 64 (by norm_num) _ h9
  exact h10

/-- If some level `32767 - 64 * j` is met by exactly `k` entries, the level found is met by exactly `k` entries. -/
theorem count_search {n : ℕ} (k : ℕ) (u : Fin n → ℤ) (hu : ∀ j, -32768 ≤ u j) (hk : k ≤ n) (j : ℤ) (hj : 1 ≤ j)
    (hex : count u (32767 - 64 * j) = k) : count u (search k u).1 = k := by
  have hI := inv_search k u hu hk
  generalize search k u = p at hI
  obtain ⟨a, b⟩ := p
  obtain ⟨low, high, shape, ⟨i, grid⟩, enough, short⟩ := hI
  simp only at low high shape grid enough short ⊢
  refine le_antisymm ?_ enough
  have hle : 32767 - 64 * j ≤ a := by
    rcases short with h | h
    · omega
    · have hlt : 32767 - 64 * j < b := by
        by_contra hc
        have := count_anti u (not_lt.mp hc)
        omega
      rcases shape with h' | ⟨h', h''⟩
      · omega
      · omega
  exact le_trans (count_anti u hle) hex.le

end Cert.Bisect
-- ==== Proof.Words.lean ====
/- The words of the search: the middle of an interval, the comparisons, and the count by a tree of 16-bit sums. -/
module

public import Idealize.ShloMosaic.PureOps.Ideal
public import Idealize.ShloMosaic.Lib.Pointwise
public import proofs.«01_k».proof.Proof.Bisect

@[expose] public section

namespace Cert.Words

open Idealize.ShloMosaic

/-- The middle of two words in the range of 16-bit words. -/
theorem mid_toInt (a b : BitVec 32) (ha : -32768 ≤ a.toInt ∧ a.toInt ≤ 32767) (hb : -32768 ≤ b.toInt ∧ b.toInt ≤ 32767) :
    (IntOp.shrsi .vector (IntOp.addi a b) 1#32).toInt = (a.toInt + b.toInt) / 2 := by
  have hs : (a + b).toInt = a.toInt + b.toInt := by
    rw [BitVec.toInt_add, Int.bmod_eq_of_le] <;> norm_num <;> omega
  have e : IntOp.shrsi .vector (IntOp.addi a b) 1#32 = (a + b).sshiftRight 1 := rfl
  rw [e, BitVec.toInt_sshiftRight, hs, Int.shiftRight_eq_div_pow]
  norm_num

/-- A word in the range of 16-bit words, cut to 16 bits, is the same number. -/
theorem trunc_toInt (a : BitVec 32) (ha : -32768 ≤ a.toInt ∧ a.toInt ≤ 32767) : (a.setWidth 16).toInt = a.toInt := by
  have h := BitVec.toInt_eq_toNat_cond a
  have hlt := a.isLt
  rw [BitVec.toInt_eq_toNat_cond (a.setWidth 16), BitVec.toNat_setWidth]
  split at h <;> split <;> norm_num at * <;> omega

/-- The signed comparison of words is that of the numbers. -/
theorem sge_iff {w : ℕ} (a b : BitVec w) : IntOp.cmpi .sge a b = 1#1 ↔ b.toInt ≤ a.toInt := by
  unfold IntOp.cmpi
  simp only [BitVec.sle]
  by_cases h : b.toInt ≤ a.toInt <;> simp [h]

/-- A bit read as a number. -/
def bit (c : BitVec 1) : ℕ := if c = 1#1 then 1 else 0

/-- A bit widened is its number. -/
theorem toNat_bit (c : BitVec 1) (w : ℕ) (hw : 0 < w) : (c.setWidth w).toNat = bit c := by
  unfold bit
  rcases BitVec.eq_zero_or_eq_one c with rfl | rfl
  · simp
  · have : 1 < 2 ^ w := Nat.one_lt_two_pow hw.ne'
    simp [Nat.mod_eq_of_lt this]

/-- A bit is at most one. -/
theorem bit_le (c : BitVec 1) : bit c ≤ 1 := by unfold bit; split <;> omega

/-- A sum of words each of which is the word of a number is the word of the sum. -/
theorem fold_addi {ι : Type*} (S : Finset ι) (f : ι → BitVec 32) (t : ι → ℕ) (h : ∀ i, f i = BitVec.ofNat 32 (t i)) :
    S.fold IntOp.addi (0#32) f = BitVec.ofNat 32 (∑ i ∈ S, t i) := by
  classical
  induction S using Finset.induction_on with
  | empty => rfl
  | insert a S ha ih =>
    rw [Finset.fold_insert ha, Finset.sum_insert ha, ih, h, BitVec.ofNat_add]
    rfl

/-- Two 16-bit words of small numbers add as numbers. -/
theorem add16 (x y : BitVec 16) (a b : ℕ) (hx : x.toNat = a) (hy : y.toNat = b) (h : a + b < 65536) :
    (IntOp.addi x y).toNat = a + b := by
  have e : IntOp.addi x y = x + y := rfl
  rw [e, BitVec.toNat_add, hx, hy, Nat.mod_eq_of_lt (by norm_num; omega)]

/-- A small 16-bit word widened with its sign is the 32-bit word of its number. -/
theorem widen16 (x : BitVec 16) (a : ℕ) (hx : x.toNat = a) (h : a < 32768) : x.signExtend 32 = BitVec.ofNat 32 a := by
  apply BitVec.eq_of_toInt_eq
  rw [BitVec.toInt_signExtend_of_le (by norm_num), BitVec.toInt_eq_toNat_of_lt (by rw [hx]; norm_num; omega), hx,
    BitVec.toInt_eq_toNat_of_lt (by rw [BitVec.toNat_ofNat]; norm_num; omega), BitVec.toNat_ofNat]
  norm_num
  omega

/-- The tree: the 16 bits of one lane, at distances of 128, added in pairs from the farthest distance down. -/
def lane (c : Fin 16 → BitVec 1) : BitVec 16 :=
  let b : Fin 16 → BitVec 16 := fun i => (c i).setWidth 16
  IntOp.addi
    (IntOp.addi (IntOp.addi (IntOp.addi (b 0) (b 8)) (IntOp.addi (b 4) (b 12)))
      (IntOp.addi (IntOp.addi (b 2) (b 10)) (IntOp.addi (b 6) (b 14))))
    (IntOp.addi (IntOp.addi (IntOp.addi (b 1) (b 9)) (IntOp.addi (b 5) (b 13)))
      (IntOp.addi (IntOp.addi (b 3) (b 11)) (IntOp.addi (b 7) (b 15))))

/-- The tree adds its bits. -/
theorem lane_toNat (c : Fin 16 → BitVec 1) : (lane c).toNat = ∑ i, bit (c i) := by
  have hb : ∀ i, ((c i).setWidth 16).toNat = bit (c i) := fun i => toNat_bit _ 16 (by norm_num)
  have hl : ∀ i, bit (c i) ≤ 1 := fun i => bit_le _
  have p : ∀ i j, (IntOp.addi ((c i).setWidth 16) ((c j).setWidth 16)).toNat = bit (c i) + bit (c j) := fun i j =>
    add16 _ _ _ _ (hb i) (hb j) (by have := hl i; have := hl j; omega)
  have q : ∀ i j k l, (IntOp.addi (IntOp.addi ((c i).setWidth 16) ((c j).setWidth 16))
      (IntOp.addi ((c k).setWidth 16) ((c l).setWidth 16))).toNat = (bit (c i) + bit (c j)) + (bit (c k) + bit (c l)) :=
    fun i j k l => add16 _ _ _ _ (p i j) (p k l) (by have := hl i; have := hl j; have := hl k; have := hl l; omega)
  have h0 := hl 0; have h1 := hl 1; have h2 := hl 2; have h3 := hl 3
  have h4 := hl 4; have h5 := hl 5; have h6 := hl 6; have h7 := hl 7
  have h8 := hl 8; have h9 := hl 9; have h10 := hl 10; have h11 := hl 11
  have h12 := hl 12; have h13 := hl 13; have h14 := hl 14; have h15 := hl 15
  have e1 := add16 _ _ _ _ (q 0 8 4 12) (q 2 10 6 14) (by omega)
  have e2 := add16 _ _ _ _ (q 1 9 5 13) (q 3 11 7 15) (by omega)
  have e := add16 _ _ _ _ e1 e2 (by omega)
  refine (show (lane c).toNat = _ from e).trans ?_
  simp only [Fin.sum_univ_succ, Fin.sum_univ_zero]
  simp
  ring

/-- Position `i` of lane `x`. -/
def place (i : Fin 16) (x : Fin 128) : Fin 2048 := ⟨128 * i.val + x.val, by omega⟩

/-- A sum over the row is the sum over the lanes of the sums over a lane. -/
theorem sum_lanes (f : Fin 2048 → ℕ) : ∑ x : Fin 128, ∑ i : Fin 16, f (place i x) = ∑ j, f j := by
  rw [Finset.sum_comm, ← Fintype.sum_prod_type' (f := fun (i : Fin 16) (x : Fin 128) => f (place i x))]
  refine (Equiv.sum_comp (finProdFinEquiv (m := 16) (n := 128)) f).symm.trans ?_ |>.symm
  refine Finset.sum_congr rfl fun p _ => congrArg f (Fin.ext ?_)
  simp [place, finProdFinEquiv]
  omega

/-- The sum of a row's bits is the number of bits set. -/
theorem sum_bits {n : ℕ} (c : Fin n → BitVec 1) : ∑ j, bit (c j) = (Finset.univ.filter fun j => c j = 1#1).card := by
  unfold bit
  rw [Finset.card_filter]

/-- The count by the tree: enough bits of the row are set exactly when the tree's sum says so. -/
theorem tree_count (c : Fin 2048 → BitVec 1) (f : Fin 128 → BitVec 32)
    (hf : ∀ x, f x = (lane fun i => c (place i x)).signExtend 32) :
    IntOp.cmpi .sge ((Finset.univ : Finset (Fin 128)).fold IntOp.addi (0#32) f) 409#32 = 1#1
      ↔ 409 ≤ (Finset.univ.filter fun j => c j = 1#1).card := by
  have hl : ∀ x, f x = BitVec.ofNat 32 (∑ i, bit (c (place i x))) := fun x => by
    rw [hf]
    refine widen16 _ _ (lane_toNat _) ?_
    refine lt_of_le_of_lt (Finset.sum_le_sum fun i _ => bit_le _) ?_
    simp
  rw [sge_iff, fold_addi _ _ _ hl, sum_lanes fun j => bit (c j), sum_bits]
  have hc : (Finset.univ.filter fun j => c j = 1#1).card ≤ 2048 :=
    (Finset.card_filter_le _ _).trans (by simp)
  generalize (Finset.univ.filter fun j => c j = 1#1).card = N at hc ⊢
  rw [BitVec.toInt_eq_toNat_of_lt (x := BitVec.ofNat 32 N) (by rw [BitVec.toNat_ofNat]; norm_num; omega), BitVec.toNat_ofNat]
  have e : (409#32).toInt = 409 := by decide
  rw [e]
  norm_num
  omega

end Cert.Words
-- ==== Proof.Block.lean ====
/- What the kernel's body computes for one block, read at an index: the row's scores, their levels, the count, the ten
   halvings, the weights and the quotient. -/
module

public import proofs.«01_k».proof.Proof.Gen.KernelIdeal.Skeleton
public import Idealize.ShloMosaic.Lib.Pointwise
public import proofs.«01_k».proof.Proof.Row
public import proofs.«01_k».proof.Proof.Words

@[expose] public section

set_option maxRecDepth 16384

noncomputable section

namespace Cert.Block

open Idealize.ShloMosaic Cert.KernelIdeal Cert.KernelIdeal.Gen Cert.Row

variable [Cert.KernelIdeal.Facts]

/-- Row `l` of a block. -/
abbrev row (x : Vec Ideal S2048x128 .f32) (l : Fin 2048) : Fin 128 → EReal := fun e => x (ix2 l e)

/-- The scores of a block. -/
theorem score_apply (q k : Vec Ideal S2048x128 .f32) (l j : Fin 2048) :
    k0_pay4 q k (ix2 l j) = score (row q l) (row k j) := by
  pointwise [k0_pay4, k0_pay2]
  rfl

/-- The 16-bit words of a block. -/
theorem word_apply (q k : Vec Ideal S2048x128 .f32) (l j : Fin 2048) :
    k0_pay5 q k (ix2 l j) = Ideal.fptosi 16 (quant (score (row q l) (row k j)) (length (row q l))) := by
  pointwise [k0_pay5, k0_pay4, k0_pay2]
  rfl

/-- The levels of a row's scores. -/
abbrev levels (q k : Vec Ideal S2048x128 .f32) (l : Fin 2048) : Fin 2048 → ℤ :=
  fun j => level (score (row q l) (row k j)) (length (row q l))

/-- A word is the level of its score. -/
theorem word_toInt (q k : Vec Ideal S2048x128 .f32) (l j : Fin 2048) : (k0_pay5 q k (ix2 l j)).toInt = levels q k l j := by
  rw [word_apply, word16]

/-- The middle of a row's interval. -/
theorem mid_apply (a b : IVec S2048x1 32) (l : Fin 2048) :
    k0_pay8 a b (ix2 l 0) = IntOp.shrsi .vector (IntOp.addi (a (ix2 l 0)) (b (ix2 l 0))) 1#32 := by
  pointwise [k0_pay8]

/-- Whether a row's middle is met by enough scores. -/
theorem enough_apply (q k : Vec Ideal S2048x128 .f32) (a b : IVec S2048x1 32) (l : Fin 2048)
    (ha : -32768 ≤ (a (ix2 l 0)).toInt ∧ (a (ix2 l 0)).toInt ≤ 32767)
    (hb : -32768 ≤ (b (ix2 l 0)).toInt ∧ (b (ix2 l 0)).toInt ≤ 32767) :
    k0_pay9 q k a b (ix2 l 0) = 1#1
      ↔ 409 ≤ Bisect.count (levels q k l) (((a (ix2 l 0)).toInt + (b (ix2 l 0)).toInt) / 2) := by
  have hm := Words.mid_toInt _ _ ha hb
  set mid := IntOp.shrsi .vector (IntOp.addi (a (ix2 l 0)) (b (ix2 l 0))) 1#32 with hmid
  have hc : Bisect.count (levels q k l) (((a (ix2 l 0)).toInt + (b (ix2 l 0)).toInt) / 2)
      = (Finset.univ.filter fun j => IntOp.cmpi .sge (k0_pay5 q k (ix2 l j)) (mid.setWidth 16) = 1#1).card := by
    unfold Bisect.count
    refine congrArg Finset.card (Finset.filter_congr fun j _ => ?_)
    rw [Words.sge_iff, word_toInt, Words.trunc_toInt mid (by omega), hm]
  rw [hc]
  pointwise [k0_pay9, k0_pay8]
  rw [← hmid]
  refine Words.tree_count (fun j => IntOp.cmpi .sge (k0_pay5 q k (ix2 l j)) (mid.setWidth 16)) _ fun x => ?_
  -- the slices' positions are the lane's places
  have p0 : ∀ hn, (⟨x.val, hn⟩ : Fin 2048) = Words.place 0 x := fun _ => Fin.ext (by simp [Words.place]; try omega)
  have p1 : ∀ hn, (⟨128 + x.val, hn⟩ : Fin 2048) = Words.place 1 x := fun _ => Fin.ext (by simp [Words.place]; try omega)
  have p2 : ∀ hn, (⟨256 + x.val, hn⟩ : Fin 2048) = Words.place 2 x := fun _ => Fin.ext (by simp [Words.place]; try omega)
  have p3 : ∀ hn, (⟨256 + (128 + x.val), hn⟩ : Fin 2048) = Words.place 3 x := fun _ => Fin.ext (by simp [Words.place]; try omega)
  have p4 : ∀ hn, (⟨512 + x.val, hn⟩ : Fin 2048) = Words.place 4 x := fun _ => Fin.ext (by simp [Words.place]; try omega)
  have p5 : ∀ hn, (⟨512 + (128 + x.val), hn⟩ : Fin 2048) = Words.place 5 x := fun _ => Fin.ext (by simp [Words.place]; try omega)
  have p6 : ∀ hn, (⟨512 + (256 + x.val), hn⟩ : Fin 2048) = Words.place 6 x := fun _ => Fin.ext (by simp [Words.place]; try omega)
  have p7 : ∀ hn, (⟨512 + (256 + (128 + x.val)), hn⟩ : Fin 2048) = Words.place 7 x := fun _ => Fin.ext (by simp [Words.place]; try omega)
  have p8 : ∀ hn, (⟨1024 + x.val, hn⟩ : Fin 2048) = Words.place 8 x := fun _ => Fin.ext (by simp [Words.place]; try omega)
  have p9 : ∀ hn, (⟨1024 + (128 + x.val), hn⟩ : Fin 2048) = Words.place 9 x := fun _ => Fin.ext (by simp [Words.place]; try omega)
  have p10 : ∀ hn, (⟨1024 + (256 + x.val), hn⟩ : Fin 2048) = Words.place 10 x := fun _ => Fin.ext (by simp [Words.place]; try omega)
  have p11 : ∀ hn, (⟨1024 + (256 + (128 + x.val)), hn⟩ : Fin 2048) = Words.place 11 x := fun _ => Fin.ext (by simp [Words.place]; try omega)
  have p12 : ∀ hn, (⟨1024 + (512 + x.val), hn⟩ : Fin 2048) = Words.place 12 x := fun _ => Fin.ext (by simp [Words.place]; try omega)
  have p13 : ∀ hn, (⟨1024 + (512 + (128 + x.val)), hn⟩ : Fin 2048) = Words.place 13 x := fun _ => Fin.ext (by simp [Words.place]; try omega)
  have p14 : ∀ hn, (⟨1024 + (512 + (256 + x.val)), hn⟩ : Fin 2048) = Words.place 14 x := fun _ => Fin.ext (by simp [Words.place]; try omega)
  have p15 : ∀ hn, (⟨1024 + (512 + (256 + (128 + x.val))), hn⟩ : Fin 2048) = Words.place 15 x := fun _ => Fin.ext (by simp [Words.place]; try omega)
  simp only [p0, p1, p2, p3, p4, p5, p6, p7, p8, p9, p10, p11, p12, p13, p14, p15]
  rfl

end Cert.Block
-- ==== Proof.Output.lean ====
/- The kernel's output array: the loop's ten trips are the ten halvings, row by row; the weights and the quotient of a
   block; and the blocks laid side by side. -/
module

public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt
public import Idealize.ShloMosaic.Lib.Claim
public import proofs.«01_k».proof.Proof.Block

@[expose] public section

set_option maxRecDepth 16384

noncomputable section

namespace Cert.Output

open Idealize.ShloMosaic Cert.KernelIdeal Cert.KernelIdeal.Gen Cert.Row Cert.Block

/-- The loop's pair of words per row after its trips. -/
def bounds [Cert.KernelIdeal.Facts] (q k : Vec Ideal S2048x128 .f32) : IVec S2048x1 32 × IVec S2048x1 32 :=
  Scf.fold (n := k0_t1_loop.trips) (fun _ p => (k0_pay10 q k p.1 p.2, k0_pay11 q k p.1 p.2)) (k0_pay6, k0_pay7)

/-- A pair of words holds a pair of numbers of the 16-bit range. -/
def Holds (p : IVec S2048x1 32 × IVec S2048x1 32) (l : Fin 2048) (z : ℤ × ℤ) : Prop :=
  ((p.1 (ix2 l 0)).toInt = z.1 ∧ (p.2 (ix2 l 0)).toInt = z.2) ∧
    (-32768 ≤ z.1 ∧ z.1 ≤ 32767) ∧ (-32768 ≤ z.2 ∧ z.2 ≤ 32767)

variable [Cert.KernelIdeal.Facts]

/-- The loop starts from the whole range. -/
theorem holds_start (l : Fin 2048) : Holds (k0_pay6, k0_pay7) l (-32768, 32767) := by
  refine ⟨⟨?_, ?_⟩, by norm_num, by norm_num⟩
  · pointwise [k0_pay6]
    decide
  · pointwise [k0_pay7]
    decide

/-- A trip halves the interval of every row. -/
theorem holds_trip (q k : Vec Ideal S2048x128 .f32) (p : IVec S2048x1 32 × IVec S2048x1 32) (l : Fin 2048) (z : ℤ × ℤ)
    (h : Holds p l z) :
    Holds (k0_pay10 q k p.1 p.2, k0_pay11 q k p.1 p.2) l (Bisect.halve 409 (levels q k l) z) := by
  obtain ⟨⟨h1, h2⟩, b1, b2⟩ := h
  have he := enough_apply q k p.1 p.2 l (by rw [h1]; exact b1) (by rw [h2]; exact b2)
  have hm := Words.mid_toInt (p.1 (ix2 l 0)) (p.2 (ix2 l 0)) (by rw [h1]; exact b1) (by rw [h2]; exact b2)
  rw [← mid_apply] at hm
  rw [h1, h2] at he hm
  have hlo : k0_pay10 q k p.1 p.2 (ix2 l 0)
      = Scalar.select (k0_pay9 q k p.1 p.2 (ix2 l 0)) (k0_pay8 p.1 p.2 (ix2 l 0)) (p.1 (ix2 l 0)) := by
    pointwise [k0_pay10]
  have hhi : k0_pay11 q k p.1 p.2 (ix2 l 0)
      = Scalar.select (k0_pay9 q k p.1 p.2 (ix2 l 0)) (p.2 (ix2 l 0)) (k0_pay8 p.1 p.2 (ix2 l 0)) := by
    pointwise [k0_pay11]
  unfold Holds
  simp only [hlo, hhi]
  unfold Bisect.halve
  by_cases hc : k0_pay9 q k p.1 p.2 (ix2 l 0) = 1#1
  · rw [if_pos (he.mp hc), hc]
    refine ⟨⟨hm, h2⟩, ?_, b2⟩
    simp only
    omega
  · rw [if_neg fun h => hc (he.mpr h), (BitVec.eq_zero_or_eq_one _).resolve_right hc]
    refine ⟨⟨h1, hm⟩, b1, ?_⟩
    simp only
    omega

/-- The lower word of a row after the loop is the level that the search finds. -/
theorem bounds_apply (q k : Vec Ideal S2048x128 .f32) (l : Fin 2048) :
    Holds (bounds q k) l (Bisect.search 409 (levels q k l)) := by
  have ht : k0_t1_loop.trips = 10 := by decide
  have key : ∀ (n : ℕ) (L : List (Fin n)) (L' : List (Fin 10)), L.length = L'.length →
      ∀ (p : IVec S2048x1 32 × IVec S2048x1 32) (z : ℤ × ℤ), Holds p l z →
      Holds (L.foldl (fun p _ => (k0_pay10 q k p.1 p.2, k0_pay11 q k p.1 p.2)) p) l
        (L'.foldl (fun z _ => Bisect.halve 409 (levels q k l) z) z) := by
    intro n L
    induction L with
    | nil =>
      intro L' hL p z h
      obtain rfl := List.length_eq_zero_iff.mp hL.symm
      exact h
    | cons a L ih =>
      intro L' hL p z h
      obtain ⟨a', L', rfl⟩ := List.exists_cons_of_length_eq_add_one hL.symm
      have hL' : L.length = L'.length := Nat.succ.inj hL
      have hs := holds_trip q k p l z h
      rw [List.foldl_cons, List.foldl_cons]
      exact ih L' hL' _ _ hs
  unfold bounds Bisect.search
  rw [Scf.fold_eq]
  have hl : (List.finRange k0_t1_loop.trips).length = (List.finRange 10).length := by
    rw [List.length_finRange, List.length_finRange, ht]
  exact key k0_t1_loop.trips (List.finRange k0_t1_loop.trips) (List.finRange 10) hl _ _ (holds_start l)

/-- Whether a key is kept in a query's row. -/
abbrev Kept (q k : Vec Ideal S2048x128 .f32) (l j : Fin 2048) : Prop :=
  (Bisect.search 409 (levels q k l)).1 ≤ levels q k l j

/-- The exponents of a row. -/
def exponent (q k : Vec Ideal S2048x128 .f32) (l j : Fin 2048) : EReal :=
  if Kept q k l j then score (row q l) (row k j) * cScale else 0

/-- The weights of a block. -/
theorem weight_apply (q k : Vec Ideal S2048x128 .f32) (l j : Fin 2048) :
    k0_pay12 q k (bounds q k).1 (ix2 l j) = Ideal.exp (exponent q k l j) := by
  obtain ⟨⟨h1, -⟩, b1, -⟩ := bounds_apply q k l
  have hc : IntOp.cmpi .sge (k0_pay5 q k (ix2 l j)) (((bounds q k).1 (ix2 l 0)).setWidth 16) = 1#1 ↔ Kept q k l j := by
    rw [Words.sge_iff, word_toInt, Words.trunc_toInt _ (by rw [h1]; exact b1), h1]
  pointwise [k0_pay12]
  rw [score_apply]
  unfold exponent
  by_cases h : Kept q k l j
  · rw [if_pos h, hc.mpr h]
    rfl
  · rw [if_neg h, (BitVec.eq_zero_or_eq_one _).resolve_right (mt hc.mp h)]
    rfl

/-- One block of the output. -/
def block (q k v : Vec Ideal S2048x128 .f32) : Vec Ideal S2048x128 .f32 :=
  k0_pay1 (k0_pay3 v) (k0_pay12 q k (bounds q k).1)

/-- It is the weighted mean of the values, divided once. -/
theorem block_apply (q k v : Vec Ideal S2048x128 .f32) (l : Fin 2048) (d : Fin 128) :
    block q k v (ix2 l d) = Ideal.div (∑ j, Ideal.exp (exponent q k l j) * v (ix2 j d)) (∑ j, Ideal.exp (exponent q k l j)) := by
  unfold block
  pointwise [k0_pay1, k0_pay3]
  simp only [weight_apply]

end Cert.Output

namespace Cert.Output

open Idealize.ShloMosaic Cert.KernelIdeal Cert.KernelIdeal.Gen Cert.Row Cert.Block

variable (m : (ℓ : Loc nD τ sig) → Buf (Elt Ideal) ℓ)

attribute [local instance] Cert.KernelIdeal.Gen.facts

/-- What a grid point leaves in the output's block. -/
theorem outs_eq (c : Dev nD) (t : Fin cfg0.N) : outsAt0 m c t = block (iblk m c 0 t) (iblk m c 1 t) (iblk m c 2 t) := by
  unfold outsAt0
  frame_out
  rfl

/-- The columns of one head of an array of queries, keys or values. -/
def head (x : S1x2048x16x128.Idx → EReal) (h : Fin 16) : Vec Ideal S2048x128 .f32 := fun y => x (ix4 0 (y 0) h (y 1))

/-- The output over the arguments: each head's block at its columns. -/
def whole (q k v : S1x2048x16x128.Idx → EReal) (l : Fin 2048) (h : Fin 16) (d : Fin 128) : EReal :=
  block (head q h) (head k h) (head v h) (ix2 l d)

/-- The windows' block positions: the head is the grid's first coordinate. -/
theorem index_at : ∀ t : Fin cfg0.N, win0_0.index t = ![0, t.val] ∧ win0_1.index t = ![0, t.val] ∧
    win0_2.index t = ![0, t.val] ∧ win0_3.index t = ![0, t.val] := by decide +kernel

/-- A grid point as a head. -/
def headAt (t : Fin cfg0.N) : Fin 16 := ⟨t.val, lt_of_lt_of_le t.isLt (by decide)⟩

/-- The staged queries are the argument's, reshaped. -/
theorem entry0 (c : Dev nD) (a b : Fin 2048) : V m c main_v0 (ix2 a b)
    = m ((c.tc : Thread nD τ).loc main_arg0) (ix4 0 a ⟨b.val / 128, by omega⟩ ⟨b.val % 128, Nat.mod_lt _ (by norm_num)⟩) := by
  unfold V V0
  after_reads_at

/-- A grid point's block of the queries is its head's columns. -/
theorem in0 (c : Dev nD) (t : Fin cfg0.N) :
    iblk m c 0 t = head (m ((c.tc : Thread nD τ).loc main_arg0)) (headAt t) := by
  have e : ∀ (a : Fin 2048) (b : Fin 128), iblk m c 0 t (ix2 a b)
      = V m c main_v0 (ix2 a ⟨(headAt t).val * 128 + b.val, by omega⟩) := fun a b => by
    blk_ext [iblk, index_at t, headAt]
  funext y
  obtain ⟨a, b, rfl⟩ : ∃ (a : Fin 2048) (b : Fin 128), y = ix2 a b := ⟨y 0, y 1, eq_ix2 y⟩
  refine (e a b).trans ((entry0 m c a _).trans ?_)
  unfold head
  blk_ext

/-- The staged keys are the argument's, reshaped. -/
theorem entry1 (c : Dev nD) (a b : Fin 2048) : V m c main_v1 (ix2 a b)
    = m ((c.tc : Thread nD τ).loc main_arg1) (ix4 0 a ⟨b.val / 128, by omega⟩ ⟨b.val % 128, Nat.mod_lt _ (by norm_num)⟩) := by
  unfold V V0
  after_reads_at

/-- A grid point's block of the keys is its head's columns. -/
theorem in1 (c : Dev nD) (t : Fin cfg0.N) :
    iblk m c 1 t = head (m ((c.tc : Thread nD τ).loc main_arg1)) (headAt t) := by
  have e : ∀ (a : Fin 2048) (b : Fin 128), iblk m c 1 t (ix2 a b)
      = V m c main_v1 (ix2 a ⟨(headAt t).val * 128 + b.val, by omega⟩) := fun a b => by
    blk_ext [iblk, index_at t, headAt]
  funext y
  obtain ⟨a, b, rfl⟩ : ∃ (a : Fin 2048) (b : Fin 128), y = ix2 a b := ⟨y 0, y 1, eq_ix2 y⟩
  refine (e a b).trans ((entry1 m c a _).trans ?_)
  unfold head
  blk_ext

/-- The staged values are the argument's, reshaped. -/
theorem entry2 (c : Dev nD) (a b : Fin 2048) : V m c main_v2 (ix2 a b)
    = m ((c.tc : Thread nD τ).loc main_arg2) (ix4 0 a ⟨b.val / 128, by omega⟩ ⟨b.val % 128, Nat.mod_lt _ (by norm_num)⟩) := by
  unfold V V0
  after_reads_at

/-- A grid point's block of the values is its head's columns. -/
theorem in2 (c : Dev nD) (t : Fin cfg0.N) :
    iblk m c 2 t = head (m ((c.tc : Thread nD τ).loc main_arg2)) (headAt t) := by
  have e : ∀ (a : Fin 2048) (b : Fin 128), iblk m c 2 t (ix2 a b)
      = V m c main_v2 (ix2 a ⟨(headAt t).val * 128 + b.val, by omega⟩) := fun a b => by
    blk_ext [iblk, index_at t, headAt]
  funext y
  obtain ⟨a, b, rfl⟩ : ∃ (a : Fin 2048) (b : Fin 128), y = ix2 a b := ⟨y 0, y 1, eq_ix2 y⟩
  refine (e a b).trans ((entry2 m c a _).trans ?_)
  unfold head
  blk_ext

/-- The output before its last reshape: head `h` fills columns `128 * h` on. -/
def flat (q k v : S1x2048x16x128.Idx → EReal) : S2048x2048.Idx → EReal := fun i =>
  whole q k v (i 0) ⟨(i 1).val / 128, by have := (i 1).isLt; simp at this; omega⟩
    ⟨(i 1).val % 128, Nat.mod_lt _ (by norm_num)⟩

/-- It read at a head's column. -/
theorem flat_at (q k v : S1x2048x16x128.Idx → EReal) (i : S2048x2048.Idx) (l : Fin 2048) (h : Fin 16) (d : Fin 128)
    (h0 : i 0 = l) (h1 : (i 1).val = h.val * 128 + d.val) : flat q k v i = whole q k v l h d := by
  have e1 : ∀ hh, (⟨(i 1).val / 128, hh⟩ : Fin 16) = h := fun _ => Fin.ext (by simp only [h1]; omega)
  have e2 : ∀ hh, (⟨(i 1).val % 128, hh⟩ : Fin 128) = d := fun _ => Fin.ext (by simp only [h1]; omega)
  unfold flat
  rw [h0, e1, e2]

/-- The output array after the grid. -/
theorem out_array (c : Dev nD) : (dats m 0 c).arrAt 3 cfg0.N = flat (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  blk_simp
  rw [after0_3, outs_eq, in0, in1, in2]
  obtain ⟨a, b, rfl⟩ : ∃ (a : Fin 2048) (b : Fin 128), y = ix2 a b := ⟨y 0, y 1, eq_ix2 y⟩
  refine (flat_at _ _ _ _ a (headAt t) b ?_ ?_).symm
  · exact Fin.ext (by blk_simp [index_at t])
  · blk_simp [index_at t, headAt]

/-- The result buffer after the program: each element is its head's block at its row and column. -/
theorem main_value (ρ : Dev nD → PrngReg) : θ_run defs (onTc (τ := τ) (main (F := Ideal))) ⟨m, fun _ => 0, ρ⟩ (fun r => ∀ c : Dev nD,
    r.2.mem ((c.tc : Thread nD τ).loc main_v4) = fun i => whole (m ((c.tc : Thread nD τ).loc main_arg0)) (m ((c.tc : Thread nD τ).loc main_arg1))
        (m ((c.tc : Thread nD τ).loc main_arg2)) (i 1) (i 2) (i 3)) := by
  run_from run_main m ρ
  funext i
  unfold Pipeline.afterTail₀
  after_reads_at
  have e := Pipeline.withArrays_arr_shared (cfgs 0).spec c (V0 m c) (fun w => (dats m 0 c).arrAt w (cfgs 0).N)
    (fun w w' hne hw => absurd hw ((by decide : ∀ w w', w ≠ w' → Pipeline.arrRef spec0 w ≠ Pipeline.arrRef spec0 w') w w' hne)) 3
  refine (congrFun (e.trans (out_array m c)) _).trans ?_
  obtain ⟨z, l, h, d, rfl⟩ : ∃ (z : Fin 1) (l : Fin 2048) (h : Fin 16) (d : Fin 128), i = ix4 z l h d :=
    ⟨i 0, i 1, i 2, i 3, eq_ix4 i⟩
  exact flat_at _ _ _ _ l h d rfl rfl

end Cert.Output
-- ==== Proof.Mask.lean ====
/- What the mask says of a row it selects. -/
module

public import proofs.«01_k».proof.Proof.Gen.On_exact_rows
public import Idealize.ShloMosaic.Lib.Pointwise
public import Idealize.ShloMosaic.Lib.Routing.OpsOrder
public import proofs.«01_k».proof.Proof.Row
public import proofs.«01_k».proof.Proof.Words

@[expose] public section

set_option maxRecDepth 16384

noncomputable section

namespace Cert.Mask

open Idealize.ShloMosaic Cert.On_exact_rows Cert.Row

/-- A fold of bits by «and» holds at one exactly where every bit is. -/
theorem fold_andi {ι : Type} (S : Finset ι) (p : ι → BitVec 1) (h : S.fold IntOp.andi (1#1) p = 1#1) : ∀ x ∈ S, p x = 1#1 := by
  classical
  induction S using Finset.induction_on with
  | empty => exact fun x hx => absurd hx (Finset.notMem_empty _)
  | insert a S ha ih =>
    rw [Finset.fold_insert ha] at h
    have h2 : ∀ a b : BitVec 1, IntOp.andi a b = 1#1 → a = 1#1 ∧ b = 1#1 := by decide
    obtain ⟨e1, e2⟩ := h2 _ _ h
    intro x hx
    rcases Finset.mem_insert.1 hx with rfl | hx
    · exact e1
    · exact ih e2 x hx

/-- A proposition whose bit is set holds. -/
theorem of_bit (p : Prop) [Decidable p] (h : BitVec.ofBool (decide p) = 1#1) : p := by
  by_contra hn
  rw [decide_eq_false hn] at h
  exact absurd h (by decide)

/-- The words of the levels that the mask tries. -/
theorem level_word (x : Fin 1023) :
    (IntOp.subi 32767#32 (IntOp.muli 64#32 (IntOp.addi 1#32 (BitVec.ofNat 32 x.val)))).toInt = 32767 - 64 * ((x.val : ℤ) + 1) := by
  have hx := x.isLt
  have e0 : (BitVec.ofNat 32 x.val).toInt = x.val := StableHlo.Predicate.toInt_ofNat_small _ (by omega)
  have c1 : (1#32).toInt = 1 := by decide
  have c2 : (64#32).toInt = 64 := by decide
  have c3 : (32767#32).toInt = 32767 := by decide
  have e1 : (IntOp.addi 1#32 (BitVec.ofNat 32 x.val)).toInt = 1 + x.val := by
    unfold IntOp.addi
    rw [BitVec.toInt_add, e0, c1, Int.bmod_eq_of_le] <;> norm_num <;> omega
  have e2 : (IntOp.muli 64#32 (IntOp.addi 1#32 (BitVec.ofNat 32 x.val))).toInt = 64 * (1 + x.val) := by
    unfold IntOp.muli
    rw [BitVec.toInt_mul, e1, c2, Int.bmod_eq_of_le] <;> norm_num <;> omega
  generalize IntOp.muli 64#32 (IntOp.addi 1#32 (BitVec.ofNat 32 x.val)) = y at e2 ⊢
  unfold IntOp.subi
  rw [BitVec.toInt_sub, e2, c3, Int.bmod_eq_of_le] <;> norm_num <;> omega

/-- A count that equals 409 as a word is 409. -/
theorem count_word (N : ℕ) (hN : N ≤ 2048) (h : IntOp.cmpi .eq (BitVec.ofNat 32 N) 409#32 = 1#1) : N = 409 := by
  have e : BitVec.ofNat 32 N = 409#32 := by
    by_contra hn
    have h0 : IntOp.cmpi .eq (BitVec.ofNat 32 N) 409#32 = BitVec.ofBool (BitVec.ofNat 32 N == 409#32) := rfl
    rw [h0, beq_eq_false_iff_ne.2 hn] at h
    exact absurd h (by decide)
  have := congrArg BitVec.toNat e
  rw [BitVec.toNat_ofNat, BitVec.toNat_ofNat] at this
  omega

variable [Cert.On_exact_rows.Facts]

/-- Row `l` of head `h`. -/
abbrev vec (x : S1x2048x16x128.Idx → EReal) (h : Fin 16) (l : Fin 2048) : Fin 128 → EReal := fun e => x (ix4 0 l h e)

/-- A selected row's scores are below plus infinity, and at one of the levels exactly 409 of them are met. -/
theorem selected (q k v : S1x2048x16x128.Idx → EReal) (l : Fin 2048) (h : Fin 16) (d : Fin 128)
    (hm : Cert.On_exact_rows.fn (F := Ideal) q k v (ix4 0 l h d) = 1#1) :
    (∃ j : ℤ, 1 ≤ j ∧ Bisect.count (fun i => level (score (vec q h l) (vec k h i)) (length (vec q h l))) (32767 - 64 * j) = 409)
      ∧ ∀ i, score (vec q h l) (vec k h i) < ⊤ := by
  unfold Cert.On_exact_rows.fn Cert.On_exact_rows.fn_part1 at hm
  pointwise [Cert.On_exact_rows.fn_part2] at hm
  have h2 : ∀ a b : BitVec 1, IntOp.andi a b = 1#1 → a = 1#1 ∧ b = 1#1 := by decide
  obtain ⟨hc, hf⟩ := h2 _ _ hm
  clear hm
  constructor
  · obtain ⟨x, -, hx⟩ := (Routing.fold_ori _ _).1 hc
    refine ⟨(x.val : ℤ) + 1, by omega, ?_⟩
    rw [Words.fold_addi _ _ (fun i => Words.bit (IntOp.cmpi .sge (Ideal.fptosi 32 (quant (score (vec q h l) (vec k h i)) (length (vec q h l))))
      (IntOp.subi 32767#32 (IntOp.muli 64#32 (IntOp.addi 1#32 (BitVec.ofNat 32 x.val)))))) fun i => ?_, Words.sum_bits] at hx
    · have hb := count_word _ ((Finset.card_filter_le _ _).trans (by simp)) hx
      rw [← hb]
      unfold Bisect.count
      refine congrArg Finset.card (Finset.filter_congr fun i _ => ?_)
      rw [Words.sge_iff, word32, level_word]
    · refine BitVec.eq_of_toNat_eq ?_
      rw [Words.toNat_bit _ 32 (by norm_num), BitVec.toNat_ofNat, Nat.mod_eq_of_lt (by have := Words.bit_le (IntOp.cmpi .sge (Ideal.fptosi 32 (quant (score (vec q h l) (vec k h i)) (length (vec q h l))))
        (IntOp.subi 32767#32 (IntOp.muli 64#32 (IntOp.addi 1#32 (BitVec.ofNat 32 x.val))))); omega)]
      unfold quant
      rw [max_comm cBot, min_comm cTop]
      rfl
  · intro i
    have hi := fold_andi _ _ hf i (Finset.mem_univ i)
    rw [← posInf_eq]
    exact of_bit _ hi

end Cert.Mask
-- ==== Proof.Stages.lean ====
/- The reference's composed term, cut into its stages, and each stage read at an index. -/
module

public import proofs.«01_k».proof.Proof.Gen.ReferenceIdeal.Run
public import Idealize.ShloMosaic.Lib.Pointwise
public import Idealize.ShloMosaic.Lib.Routing.OpsSet
public import proofs.«01_k».proof.Proof.Row

@[expose] public section

set_option maxRecDepth 16384

noncomputable section

namespace Cert.Stages

open Idealize.ShloMosaic Cert.ReferenceIdeal Cert.ReferenceIdeal.Facts₀ Cert.ReferenceIdeal.Facts Cert.Row Idealize.ShloMosaic.TcCoe

variable [Cert.ReferenceIdeal.Facts]

/-- The arrays of queries, keys and values. -/
abbrev Arg : Type := FVec Ideal S1x2048x16x128 .f32

/-- All scores. -/
def scores (q k : Arg) : FVec Ideal S1x16x2048x2048 .f32 :=
  Host.dotGeneral dot_S1x2048x16x128_S1x2048x16x128_S1x16x2048x2048_3_3_1_1_02_02 none q k

/-- The 409 greatest of each row, with their positions. -/
def top (s : FVec Ideal S1x16x2048x2048 .f32) : FVec Ideal S1x16x2048x409 .f32 × IVec S1x16x2048x409 32 :=
  Host.topK S1x16x2048x409 3 (FloatOps.cmpfTotal .gt) s sliceFits_S1x16x2048x2048_S1x16x2048x409

/-- The index vectors at which the greatest are written back. -/
def places (idx : IVec S1x16x2048x409 32) : IVec S1x16x2048x409x4 32 :=
  ((concatenate S1x16x2048x409x4 4 [⟨S1x16x2048x409x1, ((broadcastInDim S1x16x2048x409x1 ![0, 1, 2, 3] bcast_S1x16x2048x409_S1x16x2048x409x1_0_1_2_3
    (broadcastInDim S1x16x2048x409 ![0, 1, 2, 3] bcast_S1x1x1x1_S1x16x2048x409_0_1_2_3 (select (cmpi .slt (broadcastInDim S1x1x1x1 ![0]
    bcast_S1_S1x1x1x1_0 (iotaInDim S1 32 0)) (broadcastInDim S1x1x1x1 ![] bcast_S_S1x1x1x1 (constantI S_ 32 0#32))) (addi (broadcastInDim S1x1x1x1
    ![0] bcast_S1_S1x1x1x1_0 (iotaInDim S1 32 0)) (broadcastInDim S1x1x1x1 ![] bcast_S_S1x1x1x1 (constantI S_ 32 1#32))) (broadcastInDim S1x1x1x1 ![0]
    bcast_S1_S1x1x1x1_0 (iotaInDim S1 32 0))))) : (⟨S1x16x2048x409x1, .i32⟩ : BufTy).Contents (Elt Ideal))⟩, ⟨S1x16x2048x409x1, ((broadcastInDim
    S1x16x2048x409x1 ![0, 1, 2, 3] bcast_S1x16x2048x409_S1x16x2048x409x1_0_1_2_3 (broadcastInDim S1x16x2048x409 ![0, 1, 2, 3]
    bcast_S1x16x1x1_S1x16x2048x409_0_1_2_3 (select (cmpi .slt (broadcastInDim S1x16x1x1 ![1] bcast_S16_S1x16x1x1_1 (iotaInDim S16 32 0))
    (broadcastInDim S1x16x1x1 ![] bcast_S_S1x16x1x1 (constantI S_ 32 0#32))) (addi (broadcastInDim S1x16x1x1 ![1] bcast_S16_S1x16x1x1_1 (iotaInDim S16
    32 0)) (broadcastInDim S1x16x1x1 ![] bcast_S_S1x16x1x1 (constantI S_ 32 16#32))) (broadcastInDim S1x16x1x1 ![1] bcast_S16_S1x16x1x1_1 (iotaInDim
    S16 32 0))))) : (⟨S1x16x2048x409x1, .i32⟩ : BufTy).Contents (Elt Ideal))⟩, ⟨S1x16x2048x409x1, ((broadcastInDim S1x16x2048x409x1 ![0, 1, 2, 3]
    bcast_S1x16x2048x409_S1x16x2048x409x1_0_1_2_3 (broadcastInDim S1x16x2048x409 ![0, 1, 2, 3] bcast_S1x1x2048x1_S1x16x2048x409_0_1_2_3 (select (cmpi
    .slt (broadcastInDim S1x1x2048x1 ![2] bcast_S2048_S1x1x2048x1_2 (iotaInDim S2048 32 0)) (broadcastInDim S1x1x2048x1 ![] bcast_S_S1x1x2048x1
    (constantI S_ 32 0#32))) (addi (broadcastInDim S1x1x2048x1 ![2] bcast_S2048_S1x1x2048x1_2 (iotaInDim S2048 32 0)) (broadcastInDim S1x1x2048x1 ![]
    bcast_S_S1x1x2048x1 (constantI S_ 32 2048#32))) (broadcastInDim S1x1x2048x1 ![2] bcast_S2048_S1x1x2048x1_2 (iotaInDim S2048 32 0))))) :
    (⟨S1x16x2048x409x1, .i32⟩ : BufTy).Contents (Elt Ideal))⟩, ⟨S1x16x2048x409x1, ((broadcastInDim S1x16x2048x409x1 ![0, 1, 2, 3]
    bcast_S1x16x2048x409_S1x16x2048x409x1_0_1_2_3 (select (cmpi .slt idx (broadcastInDim S1x16x2048x409 ![] bcast_S_S1x16x2048x409 (constantI S_ 32
    0#32))) (addi idx (broadcastInDim S1x16x2048x409 ![] bcast_S_S1x16x2048x409 (constantI S_ 32 2048#32))) idx)) : (⟨S1x16x2048x409x1, .i32⟩ :
    BufTy).Contents (Elt Ideal))⟩] concatenates_S1x16x2048x409x1_S1x16x2048x409x1_S1x16x2048x409x1_S1x16x2048x409x1_S1x16x2048x409x4_d4 :
    (⟨S1x16x2048x409x4, .i32⟩ : BufTy).Contents (Elt Ideal)))

/-- The scores with all but the greatest zeroed. -/
def sparse (q k : Arg) : FVec Ideal S1x16x2048x2048 .f32 :=
  Host.scatter scatter_S1x16x2048x2048_S1x16x2048x409x4_S1x16x2048x409_n_0123_0123_4 (fun _ b => b) (broadcastInDim S1x16x2048x2048 ![]
    bcast_S_S1x16x2048x2048 (constant S_ .f32 0x00000000#32)) (places (top (scores q k)).2) (top (scores q k)).1

/-- The scaled scores. -/
def scaled (w : FVec Ideal S1x16x2048x2048 .f32) : FVec Ideal S1x16x2048x2048 .f32 :=
  mulf (broadcastInDim S1x16x2048x2048 ![] bcast_S_S1x16x2048x2048 (constant S_ .f32 0x3DB504F3#32)) w

/-- Each row's maximum. -/
def greatest (x : FVec Ideal S1x16x2048x2048 .f32) (b : FVec Ideal S_ .f32) : FVec Ideal S1x16x2048 .f32 :=
  Host.reduce FloatOps.maximumf x b reducesTo_S1x16x2048x2048_S1x16x2048_d3 h_S_

/-- The same, against the least value once more. -/
def peak (g : FVec Ideal S1x16x2048 .f32) : FVec Ideal S1x16x2048 .f32 :=
  maximumf (broadcastInDim S1x16x2048 ![] bcast_S_S1x16x2048 (constant S_ .f32 0xFF800000#32)) g

/-- The exponentials of the entries, each less its row's `p`. -/
def expo (x : FVec Ideal S1x16x2048x2048 .f32) (p : FVec Ideal S1x16x2048 .f32) : FVec Ideal S1x16x2048x2048 .f32 :=
  Host.exp (subf x (broadcastInDim S1x16x2048x2048 ![0, 1, 2, 3] bcast_S1x16x2048x1_S1x16x2048x2048_0_1_2_3
    (broadcastInDim S1x16x2048x1 ![0, 1, 2] bcast_S1x16x2048_S1x16x2048x1_0_1_2 p)))

/-- The exponentials over their row's sum, applied to the values. -/
def result (y : FVec Ideal S1x16x2048x2048 .f32) (v : Arg) : FVec Ideal S1x2048x16x128 .f32 :=
  transpose S1x2048x16x128 [0, 3, 1, 2] (Host.dotGeneral dot_S1x2048x16x128_S1x16x2048x2048_S1x16x128x2048_1_3_3_2_02_01 none v (Host.divf y
    (broadcastInDim S1x16x2048x2048 ![0, 1, 2, 3] bcast_S1x16x2048x1_S1x16x2048x2048_0_1_2_3 (broadcastInDim S1x16x2048x1 ![0, 1, 2]
    bcast_S1x16x2048_S1x16x2048x1_0_1_2 (Host.reduceAdd y (constant S_ .f32 0x00000000#32) reducesTo_S1x16x2048x2048_S1x16x2048_d3 h_S_)))))
    transposes_S1x16x128x2048_S1x2048x16x128_0_3_1_2

/-- A score is the sum of the products of a query's and a key's entries. -/
theorem scores_apply (q k : Arg) (h : Fin 16) (l j : Fin 2048) :
    scores q k (ix4 0 h l j) = ∑ e, q (ix4 0 l h e) * k (ix4 0 j h e) := by
  pointwise [scores]

/-- A scaled score. -/
theorem scaled_apply (w : FVec Ideal S1x16x2048x2048 .f32) (h : Fin 16) (l j : Fin 2048) :
    scaled w (ix4 0 h l j) = Ideal.ofBits .f32 0x3DB504F3#32 * w (ix4 0 h l j) := by
  pointwise [scaled]

/-- A row's maximum. -/
theorem greatest_apply (x : FVec Ideal S1x16x2048x2048 .f32) (b : FVec Ideal S_ .f32) (e : EReal) (hb : ∀ i, b i = e)
    (h : Fin 16) (l : Fin 2048) : greatest x b (ix3 0 h l) = Finset.univ.fold max e fun i => x (ix4 0 h l i) := by
  pointwise [greatest]
  rw [hb]

/-- The maximum against the least value. -/
theorem peak_apply (g : FVec Ideal S1x16x2048 .f32) (h : Fin 16) (l : Fin 2048) :
    peak g (ix3 0 h l) = max (Ideal.ofBits .f32 0xFF800000#32) (g (ix3 0 h l)) := by
  pointwise [peak]

/-- An exponential. -/
theorem expo_apply (x : FVec Ideal S1x16x2048x2048 .f32) (p : FVec Ideal S1x16x2048 .f32) (h : Fin 16) (l j : Fin 2048) :
    expo x p (ix4 0 h l j) = Ideal.exp (x (ix4 0 h l j) - p (ix3 0 h l)) := by
  pointwise [expo]

/-- The quotients applied to the values, at an index. -/
theorem result_apply (y : FVec Ideal S1x16x2048x2048 .f32) (v : Arg) (l : Fin 2048) (h : Fin 16) (d : Fin 128) :
    result y v (ix4 0 l h d) = ∑ j, v (ix4 0 j h d) * Ideal.div (y (ix4 0 h l j)) (∑ i, y (ix4 0 h l i)) := by
  pointwise [result]

/-- A word of a small number is not taken for a negative one. -/
theorem wrap (n : ℕ) (a : BitVec 32) (h : n < 2048) :
    Scalar.select (IntOp.cmpi .slt (BitVec.ofNat 32 n) 0#32) a (BitVec.ofNat 32 n) = BitVec.ofNat 32 n :=
  Routing.wrap_of_lt _ _ (by rw [BitVec.toNat_ofNat]; norm_num; omega)

/-- The words of an index vector: the batch, the head, the query and the position. -/
theorem places_apply (idx : IVec S1x16x2048x409 32) (h : Fin 16) (l : Fin 2048) (r : Fin 409) (n : ℕ) (hn : n < 2048)
    (hi : idx (ix4 0 h l r) = BitVec.ofNat 32 n) :
    places idx (ix5 0 h l r 0) = 0#32 ∧ places idx (ix5 0 h l r 1) = BitVec.ofNat 32 h.val
     ∧ places idx (ix5 0 h l r 2) = BitVec.ofNat 32 l.val ∧ places idx (ix5 0 h l r 3) = BitVec.ofNat 32 n := by
  pointwise [places]
  rw [hi, wrap n _ hn, wrap l.val _ l.isLt, wrap h.val _ (by omega)]
  exact ⟨wrap 0 _ (by norm_num), rfl, rfl, rfl⟩

/-- The order in which a row's positions are sorted. -/
def order (s : FVec Ideal S1x16x2048x2048 .f32) (h : Fin 16) (l : Fin 2048) : Fin 2048 → Fin 2048 :=
  sortedFrom fun a b => FloatOps.cmpfTotal .gt (s (ix4 0 h l a)) (s (ix4 0 h l b)) == 1#1

/-- A row's index with its last coordinate changed. -/
theorem along (h : Fin 16) (l a b : Fin 2048) :
    (ix4 (0 : Fin 1) h l a : S1x16x2048x2048.Idx).along 3 b = ix4 0 h l b := by
  funext x
  match x with
  | ⟨0, _⟩ => rfl
  | ⟨1, _⟩ => rfl
  | ⟨2, _⟩ => rfl
  | ⟨3, _⟩ => rfl

/-- The greatest entries and their positions, at an index. -/
theorem top_apply (s : FVec Ideal S1x16x2048x2048 .f32) (h : Fin 16) (l : Fin 2048) (r : Fin 409) :
    (top s).1 (ix4 0 h l r) = s (ix4 0 h l (order s h l (Fin.castLE (by norm_num) r)))
      ∧ (top s).2 (ix4 0 h l r) = BitVec.ofNat 32 (order s h l (Fin.castLE (by norm_num) r)).val := by
  unfold top Host.topK Host.sort2
  constructor
  · pointwise
    simp only [along]
    rfl
  · pointwise
    simp only [along]
    rfl

/-- The scatter's dimensions. -/
abbrev dims := scatter_S1x16x2048x2048_S1x16x2048x409x4_S1x16x2048x409_n_0123_0123_4

/-- Nothing is written but single entries. -/
theorem window_zero (u : S1x16x2048x409.Idx) (a : Fin 4) : dims.window u a = 0 := by
  match a with
  | ⟨0, _⟩ => rfl
  | ⟨1, _⟩ => rfl
  | ⟨2, _⟩ => rfl
  | ⟨3, _⟩ => rfl

/-- Where an update's index vector lies. -/
theorem siIdx_eq (h : Fin 16) (l : Fin 2048) (r : Fin 409) (a : Fin 4) (ha : a.val < dims.scatterDimsToOperandDims.length) :
    dims.siIdx (ix4 0 h l r) ⟨a.val, ha⟩ = ix5 0 h l r a := by
  funext b
  match b with
  | ⟨0, _⟩ => rfl
  | ⟨1, _⟩ => rfl
  | ⟨2, _⟩ => rfl
  | ⟨3, _⟩ => rfl
  | ⟨4, _⟩ => rfl

/-- An update goes where its index vector says. -/
theorem start_eq (idx : IVec S1x16x2048x409x4 32) (h : Fin 16) (l : Fin 2048) (r : Fin 409) (a : Fin 4) :
    dims.start (ix4 0 h l r) idx a = (idx (ix5 0 h l r a)).toInt := by
  unfold ScatterDims.start
  rw [dif_pos (show a ∈ dims.scatterDimsToOperandDims by fin_cases a <;> decide)]
  refine congrArg (fun z => (idx z).toInt) ?_
  refine (congrArg (dims.siIdx (ix4 0 h l r)) (Fin.ext ?_)).trans (siIdx_eq h l r a (by have := a.isLt; exact this))
  fin_cases a <;> rfl

/-- The word of a small number, read signed. -/
theorem small_word (n : ℕ) (h : n < 2048) : (BitVec.ofNat 32 n).toInt = n :=
  StableHlo.Predicate.toInt_ofNat_small _ (by omega)

/-- Where the update of a row's `r`-th greatest entry lands. -/
theorem lands (idx : IVec S1x16x2048x409 32) (h h' : Fin 16) (l l' : Fin 2048) (r : Fin 409) (n j : Fin 2048)
    (hi : idx (ix4 0 h' l' r) = BitVec.ofNat 32 n.val) :
    dims.resultIdx? (ix4 0 h' l' r) (places idx) = some (ix4 0 h l j) ↔ h' = h ∧ l' = l ∧ n = j := by
  obtain ⟨p0, p1, p2, p3⟩ := places_apply idx h' l' r n.val n.isLt hi
  have s0 := start_eq (places idx) h' l' r 0
  have s1 := start_eq (places idx) h' l' r 1
  have s2 := start_eq (places idx) h' l' r 2
  have s3 := start_eq (places idx) h' l' r 3
  rw [p0] at s0
  rw [p1, small_word _ (by omega)] at s1
  rw [p2, small_word _ l'.isLt] at s2
  rw [p3, small_word _ n.isLt] at s3
  rw [Routing.resultIdx?_eq_some]
  constructor
  · intro e
    have e1 : ((h'.val : ℕ) : ℤ) = h.val := by
      have := e 1
      rw [s1, window_zero] at this
      simpa using this
    have e2 : ((l'.val : ℕ) : ℤ) = l.val := by
      have := e 2
      rw [s2, window_zero] at this
      simpa using this
    have e3 : ((n.val : ℕ) : ℤ) = j.val := by
      have := e 3
      rw [s3, window_zero] at this
      simpa using this
    exact ⟨Fin.ext (by omega), Fin.ext (by omega), Fin.ext (by omega)⟩
  · rintro ⟨rfl, rfl, rfl⟩ a
    rw [window_zero]
    match a with
    | ⟨0, _⟩ => exact (congrArg (· + ((0 : ℕ) : ℤ)) s0).trans (by simp)
    | ⟨1, _⟩ => exact (congrArg (· + ((0 : ℕ) : ℤ)) s1).trans (by simp)
    | ⟨2, _⟩ => exact (congrArg (· + ((0 : ℕ) : ℤ)) s2).trans (by simp)
    | ⟨3, _⟩ => exact (congrArg (· + ((0 : ℕ) : ℤ)) s3).trans (by simp)

/-- A row keeps its 409 first entries in the sorted order; the others are zero. -/
theorem sparse_apply (q k : Arg) (h : Fin 16) (l j : Fin 2048)
    [Decidable (∃ r : Fin 409, order (scores q k) h l (Fin.castLE (by norm_num) r) = j)] :
    sparse q k (ix4 0 h l j)
      = if ∃ r : Fin 409, order (scores q k) h l (Fin.castLE (by norm_num) r) = j then scores q k (ix4 0 h l j) else 0 := by
  have hi : ∀ (h' : Fin 16) (l' : Fin 2048) (r : Fin 409), (top (scores q k)).2 (ix4 0 h' l' r) = _ :=
    fun h' l' r => (top_apply (scores q k) h' l' r).2
  have form : ∀ u : S1x16x2048x409.Idx, ∃ (h' : Fin 16) (l' : Fin 2048) (r : Fin 409), u = ix4 0 h' l' r := fun u => by
    refine ⟨u 1, u 2, u 3, (eq_ix4 u).trans ?_⟩
    have : u 0 = (0 : Fin 1) := Subsingleton.elim (α := Fin 1) _ _
    rw [this]
  unfold sparse
  split
  · next hr =>
    obtain ⟨r, hr⟩ := hr
    refine Routing.scatter_set_hit _ _ _ _ _ _ (fun u hu => ?_) (ix4 0 h l r) ((lands _ h h l l r _ j (hi h l r)).2 ⟨rfl, rfl, hr⟩)
    obtain ⟨h', l', r', rfl⟩ := form u
    obtain ⟨rfl, rfl, hj⟩ := (lands _ h h' l l' r' _ j (hi h' l' r')).1 hu
    rw [(top_apply (scores q k) h' l' r').1, hj]
  · next hr =>
    refine (Routing.scatter_set_miss _ _ _ _ _ fun u hu => ?_).trans ?_
    · obtain ⟨h', l', r', rfl⟩ := form u
      obtain ⟨rfl, rfl, hj⟩ := (lands _ h h' l l' r' _ j (hi h' l' r')).1 hu
      exact hr ⟨r', hj⟩
    · pointwise

end Cert.Stages
-- ==== Proof.TopSet.lean ====
/- The positions a stable sort by "greater" puts first: where a set of `k` positions holds strictly greater entries than
   all others, it is the set of the first `k` sorted positions. -/
module

public import Idealize.ShloMosaic.PureOps.Ideal
public import Idealize.ShloMosaic.Lib.SortFacts

@[expose] public section

namespace Cert.TopSet

open Idealize.ShloMosaic

/-- Sorting by "greater" leaves no later position with a greater entry. -/
theorem sorted_desc {n : ℕ} (s : Fin n → EReal) (R : Fin n → Fin n → Bool) (hR : ∀ a b, R a b = true ↔ s b < s a)
    (i j : Fin n) (hij : i < j) : s (sortedFrom R j) ≤ s (sortedFrom R i) := by
  have hf : ∀ a b, R a b = false ↔ s a ≤ s b := fun a b => by
    rw [← not_lt, ← hR a b, Bool.not_eq_true]
  have h := sortedFrom_noInversion R R (fun a b hab => (hf b a).mpr ((hR a b).mp hab).le) (fun _ _ h => h)
    (fun a b c hab hbc => (hf a c).mpr (le_trans ((hf a b).mp hab) ((hf b c).mp hbc))) i j hij
  exact (hf _ _).mp h

/-- A position is among the first `k` sorted ones exactly when it is kept. -/
theorem mem_first_iff {n k : ℕ} (hk : k ≤ n) (s : Fin n → EReal) (R : Fin n → Fin n → Bool)
    (hR : ∀ a b, R a b = true ↔ s b < s a) (K : Finset (Fin n)) (hK : K.card = k)
    (hsep : ∀ a ∈ K, ∀ b, b ∉ K → s b < s a) (j : Fin n) :
    (∃ r : Fin k, sortedFrom R (Fin.castLE hk r) = j) ↔ j ∈ K := by
  classical
  let f : Fin k → Fin n := fun r => sortedFrom R (Fin.castLE hk r)
  have hf : Function.Injective f := (sortedFrom_injective R).comp (Fin.castLE_injective hk)
  let T : Finset (Fin n) := Finset.univ.image f
  have hT : T.card = k := by
    rw [Finset.card_image_of_injective _ hf, Finset.card_univ, Fintype.card_fin]
  have hsub : T ⊆ K := by
    intro x hx
    by_contra hxK
    obtain ⟨r, -, rfl⟩ := Finset.mem_image.mp hx
    have hne : ∃ y ∈ K, y ∉ T := by
      by_contra hc
      push Not at hc
      have hKT : K ⊆ T := hc
      have : K = T := Finset.eq_of_subset_of_card_le hKT (by rw [hT, hK])
      exact hxK (this ▸ hx)
    obtain ⟨y, hyK, hyT⟩ := hne
    obtain ⟨i, rfl⟩ := sortedFrom_surjective R y
    have hi : Fin.castLE hk r < i := by
      by_contra hc
      apply hyT
      have hik : i.val < k := lt_of_le_of_lt (Fin.le_def.mp (not_lt.mp hc)) r.isLt
      exact Finset.mem_image.mpr ⟨⟨i.val, hik⟩, Finset.mem_univ _, rfl⟩
    exact absurd (hsep _ hyK _ hxK) (not_lt.mpr (sorted_desc s R hR _ _ hi))
  have hTK : T = K := Finset.eq_of_subset_of_card_le hsub (by rw [hT, hK])
  rw [← hTK]
  constructor
  · rintro ⟨r, hr⟩
    exact Finset.mem_image.mpr ⟨r, Finset.mem_univ _, hr⟩
  · intro h
    obtain ⟨r, -, hr⟩ := Finset.mem_image.mp h
    exact ⟨r, hr⟩

end Cert.TopSet
-- ==== Proof.Softmax.lean ====
/- Two forms of one row of attention over the extended reals: the weights `exp x` summed and divided once at the end, and
   the weights `exp (x - m)` divided by their sum first. -/
module

public import Idealize.ShloMosaic.PureOps.Ideal

@[expose] public section

namespace Cert.Softmax

open Idealize.ShloMosaic

/-- A nonnegative real factor goes into a finite sum of extended reals, whatever the terms. -/
theorem mul_sum_real {ι : Type*} (S : Finset ι) (r : ℝ) (hr : 0 ≤ r) (f : ι → EReal) :
    (r : EReal) * ∑ j ∈ S, f j = ∑ j ∈ S, (r : EReal) * f j := by
  classical
  induction S using Finset.induction_on with
  | empty => simp
  | insert a S ha ih =>
    rw [Finset.sum_insert ha, Finset.sum_insert ha,
      EReal.left_distrib_of_nonneg_of_ne_top (EReal.coe_nonneg.mpr hr) (EReal.coe_ne_top r), ih]

/-- A finite sum of reals, read in the extended reals. -/
theorem sum_real {ι : Type*} (S : Finset ι) (f : ι → ℝ) : ∑ j ∈ S, (f j : EReal) = ((∑ j ∈ S, f j : ℝ) : EReal) := by
  classical
  induction S using Finset.induction_on with
  | empty => simp
  | insert a S ha ih => rw [Finset.sum_insert ha, Finset.sum_insert ha, ih, EReal.coe_add]

/-- An exponential below the greatest is a real, and a real shift of its argument divides it. -/
theorem exp_shift (x : EReal) (hx : x < ⊤) (M : ℝ) :
    ∃ e : ℝ, 0 ≤ e ∧ (⊥ < x → 0 < e) ∧ Ideal.exp x = e ∧ Ideal.exp (x - M) = (e * (Real.exp M)⁻¹ : ℝ) := by
  induction x with
  | bot => exact ⟨0, le_rfl, fun h => absurd h (lt_irrefl _), by simp, by simp⟩
  | top => exact absurd hx (lt_irrefl _)
  | coe r =>
    refine ⟨Real.exp r, (Real.exp_pos r).le, fun _ => Real.exp_pos r, Ideal.exp_coe r, ?_⟩
    rw [← EReal.coe_sub, Ideal.exp_coe, Real.exp_sub, div_eq_mul_inv]

/-- The two forms agree on a row `x` below the greatest with one real entry, for any values `v` and any real shift `m`. -/
theorem rows_agree {n : ℕ} (x : Fin n → EReal) (hx : ∀ j, x j < ⊤) (a : Fin n) (ha : ⊥ < x a) (m : EReal)
    (hm : ∃ r : ℝ, m = r) (v : Fin n → EReal) :
    Ideal.div (∑ j, Ideal.exp (x j) * v j) (∑ j, Ideal.exp (x j))
      = ∑ j, v j * Ideal.div (Ideal.exp (x j - m)) (∑ i, Ideal.exp (x i - m)) := by
  obtain ⟨M, rfl⟩ := hm
  choose w h0 hpos he hs using fun j => exp_shift (x j) (hx j) M
  have hM : 0 < (Real.exp M)⁻¹ := inv_pos.mpr (Real.exp_pos M)
  have hD : 0 < ∑ j, w j := Finset.sum_pos' (fun j _ => h0 j) ⟨a, Finset.mem_univ _, hpos a ha⟩
  have hD' : 0 < (∑ j, w j) * (Real.exp M)⁻¹ := mul_pos hD hM
  simp only [he, hs]
  rw [sum_real, sum_real, ← Finset.sum_mul, Ideal.div_coe hD.ne', mul_comm, mul_sum_real _ _ (one_div_pos.mpr hD).le]
  refine Finset.sum_congr rfl fun j _ => ?_
  rw [Ideal.div_coe hD'.ne', ← mul_assoc, ← EReal.coe_mul, ← EReal.coe_mul, mul_comm]
  congr 2
  field_simp

/-- The greatest of a row below the greatest with one real entry, started from minus infinity, is a real. -/
theorem fold_max_real {n : ℕ} (x : Fin n → EReal) (hx : ∀ j, x j < ⊤) (a : Fin n) (ha : ⊥ < x a) :
    ∃ r : ℝ, (Finset.univ : Finset (Fin n)).fold max ⊥ x = r := by
  set m := (Finset.univ : Finset (Fin n)).fold max ⊥ x with hm
  have htop : m < ⊤ := by
    rw [hm, Finset.fold_max_lt]
    exact ⟨bot_lt_top, fun j _ => hx j⟩
  have hbot : ⊥ < m := by
    rw [hm, Finset.lt_fold_max]
    exact .inr ⟨a, Finset.mem_univ _, ha⟩
  exact ⟨m.toReal, (EReal.coe_toReal htop.ne hbot.ne').symm⟩

end Cert.Softmax
-- ==== Proof.Equal.lean ====
/- A selected row: the kernel's value and the reference's are one. -/
module

public import proofs.«01_k».proof.Proof.Output
public import proofs.«01_k».proof.Proof.Mask
public import proofs.«01_k».proof.Proof.Stages
public import proofs.«01_k».proof.Proof.TopSet
public import proofs.«01_k».proof.Proof.Softmax

@[expose] public section

set_option maxRecDepth 16384

noncomputable section

namespace Cert.Equal

open Idealize.ShloMosaic Idealize.SL.Sem Idealize.ShloMosaic.TcCoe Cert.Row Cert.Mask

/-- A query's or a key's array. -/
abbrev Arg : Type := FVec Ideal ⟨4, ![1, 2048, 16, 128]⟩ .f32

/-- The levels of one row of one head. -/
abbrev lev (q k : Arg) (h : Fin 16) (l : Fin 2048) : Fin 2048 → ℤ :=
  fun i => level (score (vec q h l) (vec k h i)) (length (vec q h l))

/-- The least level the kernel keeps in a row. -/
abbrev threshold (q k : Arg) (h : Fin 16) (l : Fin 2048) : ℤ := (Bisect.search 409 (lev q k h l)).1

/-- What a row's weights are exponentials of. -/
def logit (q k : Arg) (h : Fin 16) (l j : Fin 2048) : EReal :=
  if threshold q k h l ≤ lev q k h l j then score (vec q h l) (vec k h j) * cScale else 0

section kernel

attribute [local instance] Cert.KernelIdeal.Gen.facts

/-- The kernel's value. -/
theorem whole_eq (q k v : Arg) (l : Fin 2048) (h : Fin 16) (d : Fin 128) : Output.whole q k v l h d
    = Ideal.div (∑ j, Ideal.exp (logit q k h l j) * v (ix4 0 j h d)) (∑ j, Ideal.exp (logit q k h l j)) := by
  unfold Output.whole
  rw [Output.block_apply]
  rfl

end kernel

variable [Cert.ReferenceIdeal.Facts]

/-- The comparison that the reference sorts by. -/
theorem order_gt (a b : EReal) : (FloatOps.cmpfTotal (F := Ideal) (φ := .f32) .gt a b == 1#1) = true ↔ b < a := by
  have e : FloatOps.cmpfTotal (F := Ideal) (φ := .f32) .gt a b = Ideal.cmp .ogt a b := rfl
  rw [e]
  by_cases h : b < a <;> simp [Ideal.cmp, h]

/-- In a selected row the reference keeps the entries that the kernel keeps. -/
theorem kept_same (q k : Arg) (h : Fin 16) (l : Fin 2048) (hc : Bisect.count (lev q k h l) (threshold q k h l) = 409) (j : Fin 2048) :
    (∃ r : Fin 409, Stages.order (Stages.scores q k) h l (Fin.castLE (by norm_num) r) = j)
      ↔ threshold q k h l ≤ lev q k h l j := by
  classical
  have hs : ∀ i, Stages.scores q k (ix4 0 h l i) = score (vec q h l) (vec k h i) := fun i => Stages.scores_apply q k h l i
  refine (TopSet.mem_first_iff (by norm_num) (fun i => score (vec q h l) (vec k h i)) _ (fun a b => ?_)
    (Finset.univ.filter fun i => threshold q k h l ≤ lev q k h l i) hc (fun a ha b hb => ?_) j).trans (by simp)
  · rw [order_gt, hs, hs]
  · have ha' := (Finset.mem_filter.1 ha).2
    have hb' : ¬ threshold q k h l ≤ lev q k h l b := fun hh => hb (Finset.mem_filter.2 ⟨Finset.mem_univ _, hh⟩)
    by_contra hle
    exact hb' (ha'.trans (level_mono _ (length_nonneg _) (not_lt.1 hle)))

/-- The reference's scaled scores in a selected row. -/
theorem scaled_eq (q k : Arg) (h : Fin 16) (l : Fin 2048) (hc : Bisect.count (lev q k h l) (threshold q k h l) = 409) (j : Fin 2048) :
    Stages.scaled (Stages.sparse q k) (ix4 0 h l j) = logit q k h l j := by
  classical
  rw [Stages.scaled_apply, Stages.sparse_apply, if_congr (kept_same q k h l hc j) rfl rfl, Stages.scores_apply]
  unfold logit
  split
  · exact mul_comm _ _
  · exact mul_zero _

/-- On a selected row the two values are equal. -/
theorem row_equal (q k v : Arg) (hx : Cert.On_exact_rows.Facts) (l : Fin 2048) (h : Fin 16) (d : Fin 128)
    (hm : Cert.On_exact_rows.fn (F := Ideal) q k v (ix4 0 l h d) = 1#1) :
    Output.whole q k v l h d = Stages.result (Stages.expo (Stages.scaled (Stages.sparse q k)) (Stages.peak (Stages.greatest
      (Stages.scaled (Stages.sparse q k)) (constant Cert.ReferenceIdeal.S_ .f32 0xFF800000#32)))) v (ix4 0 l h d) := by
  obtain ⟨⟨j, hj, hex⟩, hreal⟩ := selected q k v l h d hm
  have hc : Bisect.count (lev q k h l) (threshold q k h l) = 409 :=
    Bisect.count_search 409 (lev q k h l) (fun i => le_trans (by norm_num) (level_bounds _ _).1)
      (by norm_num) j hj hex
  have hl : ∀ i, logit q k h l i < ⊤ := fun i => by
    unfold logit
    split
    · exact scale_lt_top (hreal i)
    · exact EReal.zero_lt_top
  obtain ⟨a, ha⟩ : ∃ a, ⊥ < logit q k h l a := by
    by_contra hn
    push Not at hn
    have hall : ∀ i, threshold q k h l ≤ lev q k h l i := fun i => by
      by_contra hk
      have := hn i
      unfold logit at this
      rw [if_neg hk] at this
      exact absurd this (by simp)
    have : Bisect.count (lev q k h l) (threshold q k h l) = 2048 := by
      unfold Bisect.count
      rw [Finset.filter_true_of_mem fun i _ => hall i]
      simp
    omega
  have hp : Stages.peak (Stages.greatest (Stages.scaled (Stages.sparse q k)) (constant Cert.ReferenceIdeal.S_ .f32 0xFF800000#32)) (ix3 0 h l)
      = Finset.univ.fold max ⊥ (logit q k h l) := by
    rw [Stages.peak_apply, Stages.greatest_apply _ (constant Cert.ReferenceIdeal.S_ .f32 0xFF800000#32) ⊥ (fun _ => negInf_eq), negInf_eq, max_eq_right bot_le]
    exact congrArg (Finset.univ.fold max ⊥) (funext fun i => scaled_eq q k h l hc i)
  rw [whole_eq, Stages.result_apply,
    Softmax.rows_agree (logit q k h l) hl a ha _ (Softmax.fold_max_real _ hl a ha) fun i => v (ix4 0 i h d)]
  simp only [Stages.expo_apply, hp, scaled_eq q k h l hc]

/-- The reference's result in its stages. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v51 m c = Stages.result (Stages.expo (Stages.scaled (Stages.sparse
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))))
      (Stages.peak (Stages.greatest (Stages.scaled (Stages.sparse
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))))
        (constant Cert.ReferenceIdeal.S_ .f32 0xFF800000#32))))
      (m ((c.tc : Thread Cert.ReferenceIdeal.nD Cert.ReferenceIdeal.τ).loc Cert.ReferenceIdeal.main_arg2)) := rfl

end Cert.Equal
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_exact_rows
public import proofs.«01_k».proof.Proof.Output
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The kernel's program ends, leaves its arguments as they were and every counter at zero. -/
theorem frame_kernel : Cert.quiescent_Kernel (hKernel := Cert.Kernel.Gen.facts) :=
  fun m ρ _ => Cert.Kernel.Gen.frame m ρ

/-- The same of the kernel's program read over the extended reals. -/
theorem frame_kernelIdeal : Cert.quiescent_KernelIdeal (hKernelIdeal := Cert.KernelIdeal.Gen.facts) :=
  fun m ρ _ => Cert.KernelIdeal.Gen.frame m ρ

/-- The same of the reference, which is host operations only and declares no counter. -/
theorem frame_referenceIdeal : Cert.quiescent_ReferenceIdeal (hReferenceIdeal := Cert.ReferenceIdeal.Gen.facts) :=
  fun m ρ _ => (θ_run _ _ _).mono
    (fun r h => ⟨fun c => (h c).2, sem_eq_zero_of_no_sems rfl r.2⟩) (Cert.ReferenceIdeal.Value.run m ρ)

/-- On the rows that the mask selects, the kernel and the reference end with equal results. -/
theorem values : Cert.algebraic_KernelIdeal_ReferenceIdeal_on_exact_rows (hKernelIdeal := Cert.KernelIdeal.Gen.facts)
    (hReferenceIdeal := Cert.ReferenceIdeal.Gen.facts) (hOn_exact_rows := Cert.On_exact_rows.Gen.facts) := by
  intro m g m' g' _ hin
  refine ⟨fun c i => Output.whole (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (i 1) (i 2) (i 3), ?_, ?_⟩
  · refine (θ_run _ _ _).mono (fun r hr c => ⟨fun i _ => ?_, hr.2 c⟩)
      (θ_run_and (Output.main_value m g) (Cert.KernelIdeal.Gen.unchanged m g))
    exact congrFun (hr.1 c) i
  · refine (θ_run _ _ _).mono (fun r hr c => ⟨fun i hi => ?_, (hr c).2⟩) (Cert.ReferenceIdeal.Value.run m' g')
    refine (congrFun (hr c).1 i).trans ?_
    obtain ⟨h0, h1, h2⟩ := hin c
    rw [Equal.res_eq, h0, h1, h2]
    obtain ⟨l, h, d, rfl⟩ : ∃ (l : Fin 2048) (h : Fin 16) (d : Fin 128), i = ix4 0 l h d := by
      refine ⟨i 1, i 2, i 3, (eq_ix4 i).trans ?_⟩
      have : i 0 = (0 : Fin 1) := Subsingleton.elim (α := Fin 1) _ _
      rw [this]
    exact (Equal.row_equal _ _ _ Cert.On_exact_rows.Gen.facts l h d hi).symm

/-- The certificate's claims. -/
theorem claim : Cert.Claim := ⟨Cert.Kernel.Gen.facts, Cert.KernelIdeal.Gen.facts, Cert.ReferenceIdeal.Gen.facts,
  Cert.On_exact_rows.Gen.facts, frame_kernel, frame_kernelIdeal, frame_referenceIdeal, trivial, values⟩

end Cert.Proof

end
